-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.BufferStatement Cert.KernelIdeal.S6x16x2x128 Cert.KernelIdeal.S6x16x1x128
  ∧ IdealRules.bf16_pair.HalfStatement Cert.KernelIdeal.S8x128
  ∧ IdealRules.bf16_pair.Statement Cert.KernelIdeal.S1x8x2x128 Cert.KernelIdeal.S1x8x1x128
  ∧ IdealRules.bf16_pair.Statement Cert.KernelIdeal.S1x16x2x128 Cert.KernelIdeal.S1x16x1x128
  ∧ IdealRules.bf16_pair.SelectZeroStatement Cert.KernelIdeal.S16x128
  ∧ IdealRules.bf16_pair.Statement Cert.KernelIdeal.S32x128 Cert.KernelIdeal.S16x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x200 : Shape := ⟨2, ![6, 200]⟩
abbrev S20x256x10 : Shape := ⟨3, ![20, 256, 10]⟩
abbrev S131072x20x32 : Shape := ⟨3, ![131072, 20, 32]⟩
abbrev S6x20x10 : Shape := ⟨3, ![6, 20, 10]⟩
abbrev S10x6x20 : Shape := ⟨3, ![10, 6, 20]⟩
abbrev S10x6x20x1 : Shape := ⟨4, ![10, 6, 20, 1]⟩
abbrev S10x20x256 : Shape := ⟨3, ![10, 20, 256]⟩
abbrev S6x20x256 : Shape := ⟨3, ![6, 20, 256]⟩
abbrev S1x1x20x1 : Shape := ⟨4, ![1, 1, 20, 1]⟩
abbrev S20x1 : Shape := ⟨2, ![20, 1]⟩
abbrev S1x20x256 : Shape := ⟨3, ![1, 20, 256]⟩
abbrev S20x256 : Shape := ⟨2, ![20, 256]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S3x256x256 : Shape := ⟨3, ![3, 256, 256]⟩
abbrev S20x32x131072 : Shape := ⟨3, ![20, 32, 131072]⟩
abbrev S6x4194304 : Shape := ⟨2, ![6, 4194304]⟩
abbrev S20x32x1024 : Shape := ⟨3, ![20, 32, 1024]⟩
abbrev S6x32768 : Shape := ⟨2, ![6, 32768]⟩
abbrev S6x16x128 : Shape := ⟨3, ![6, 16, 128]⟩
abbrev S16x128 : Shape := ⟨2, ![16, 128]⟩
abbrev S1x32x128 : Shape := ⟨3, ![1, 32, 128]⟩
abbrev S32x128 : Shape := ⟨2, ![32, 128]⟩
abbrev S8x128 : Shape := ⟨2, ![8, 128]⟩
abbrev S1x1x128 : Shape := ⟨3, ![1, 1, 128]⟩
abbrev S1x128 : Shape := ⟨2, ![1, 128]⟩
abbrev S8x128x1 : Shape := ⟨3, ![8, 128, 1]⟩
abbrev S1x8x128 : Shape := ⟨3, ![1, 8, 128]⟩
abbrev S1x16x128 : Shape := ⟨3, ![1, 16, 128]⟩
abbrev S32x256 : Shape := ⟨2, ![32, 256]⟩
abbrev S128x256 : Shape := ⟨2, ![128, 256]⟩
abbrev S256x128 : Shape := ⟨2, ![256, 128]⟩
abbrev S6x128 : Shape := ⟨2, ![6, 128]⟩

abbrev nBuf : Space → Nat
  | .hbm => 228
  | .vmem => 10
  | .smem => 0
  | _ => 0

abbrev hbmTy0_0 (i : Nat) : BufTy := match i % 128 with
  | 0 => ⟨S6x200, .bf16⟩
  | 1 => ⟨S20x256x10, .f32⟩
  | 2 => ⟨S131072x20x32, .i8⟩
  | 3 => ⟨S6x200, .f32⟩
  | 4 => ⟨S6x20x10, .f32⟩
  | 5 => ⟨S10x6x20, .f32⟩
  | 6 => ⟨S10x6x20x1, .f32⟩
  | 7 => ⟨S10x20x256, .f32⟩
  | 8 => ⟨S6x20x256, .f32⟩
  | 9 => ⟨S256, .i32⟩
  | 10 => ⟨S256, .i32⟩
  | 11 => ⟨S_, .i32⟩
  | 12 => ⟨S_, .i32⟩
  | 13 => ⟨S256, .i32⟩
  | 14 => ⟨S256, .i32⟩
  | 15 => ⟨S256, .i32⟩
  | 16 => ⟨S_, .i32⟩
  | 17 => ⟨S256, .i32⟩
  | 18 => ⟨S256, .i1⟩
  | 19 => ⟨S256, .i32⟩
  | 20 => ⟨S256, .i32⟩
  | 21 => ⟨S_, .i32⟩
  | 22 => ⟨S256, .i32⟩
  | 23 => ⟨S256, .i1⟩
  | 24 => ⟨S256, .i1⟩
  | 25 => ⟨S_, .i32⟩
  | 26 => ⟨S256, .i32⟩
  | 27 => ⟨S256, .i32⟩
  | 28 => ⟨S256, .i32⟩
  | 29 => ⟨S256x1, .i32⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S256, .i32⟩
  | 37 => ⟨S256, .i32⟩
  | 38 => ⟨S_, .i32⟩
  | 39 => ⟨S256, .i32⟩
  | 40 => ⟨S256, .i1⟩
  | 41 => ⟨S_, .i32⟩
  | 42 => ⟨S256, .i32⟩
  | 43 => ⟨S256, .i1⟩
  | 44 => ⟨S_, .i32⟩
  | 45 => ⟨S_, .i1⟩
  | 46 => ⟨S256, .i1⟩
  | 47 => ⟨S256, .i1⟩
  | 48 => ⟨S256, .i1⟩
  | 49 => ⟨S256, .i32⟩
  | 50 => ⟨S256, .i32⟩
  | 51 => ⟨S256, .i32⟩
  | 52 => ⟨S_, .i32⟩
  | 53 => ⟨S_, .i32⟩
  | 54 => ⟨S256, .i32⟩
  | 55 => ⟨S256, .i32⟩
  | 56 => ⟨S256, .i32⟩
  | 57 => ⟨S_, .i32⟩
  | 58 => ⟨S256, .i32⟩
  | 59 => ⟨S256, .i1⟩
  | 60 => ⟨S256, .i32⟩
  | 61 => ⟨S256, .i32⟩
  | 62 => ⟨S_, .i32⟩
  | 63 => ⟨S256, .i32⟩
  | 64 => ⟨S256, .i1⟩
  | 65 => ⟨S256, .i1⟩
  | 66 => ⟨S_, .i32⟩
  | 67 => ⟨S256, .i32⟩
  | 68 => ⟨S256, .i32⟩
  | 69 => ⟨S256, .i32⟩
  | 70 => ⟨S1x256, .i32⟩
  | 71 => ⟨S256x256, .i32⟩
  | 72 => ⟨S256x256, .i32⟩
  | 73 => ⟨S256x256, .i1⟩
  | 74 => ⟨S_, .i32⟩
  | 75 => ⟨S_, .i32⟩
  | 76 => ⟨S_, .i32⟩
  | 77 => ⟨S_, .i1⟩
  | 78 => ⟨S_, .i32⟩
  | 79 => ⟨S_, .i32⟩
  | 80 => ⟨S256, .i32⟩
  | 81 => ⟨S256, .i32⟩
  | 82 => ⟨S_, .i32⟩
  | 83 => ⟨S256, .i32⟩
  | 84 => ⟨S256, .i1⟩
  | 85 => ⟨S_, .i32⟩
  | 86 => ⟨S256, .i32⟩
  | 87 => ⟨S256, .i1⟩
  | 88 => ⟨S_, .i32⟩
  | 89 => ⟨S_, .i1⟩
  | 90 => ⟨S256, .i1⟩
  | 91 => ⟨S256, .i1⟩
  | 92 => ⟨S256, .i1⟩
  | 93 => ⟨S256, .i32⟩
  | 94 => ⟨S256, .i32⟩
  | 95 => ⟨S256, .i32⟩
  | 96 => ⟨S256x1, .i32⟩
  | 97 => ⟨S_, .i32⟩
  | 98 => ⟨S_, .i32⟩
  | 99 => ⟨S256, .i32⟩
  | 100 => ⟨S256, .i32⟩
  | 101 => ⟨S256, .i32⟩
  | 102 => ⟨S_, .i32⟩
  | 103 => ⟨S256, .i32⟩
  | 104 => ⟨S256, .i1⟩
  | 105 => ⟨S256, .i32⟩
  | 106 => ⟨S256, .i32⟩
  | 107 => ⟨S_, .i32⟩
  | 108 => ⟨S256, .i32⟩
  | 109 => ⟨S256, .i1⟩
  | 110 => ⟨S256, .i1⟩
  | 111 => ⟨S_, .i32⟩
  | 112 => ⟨S256, .i32⟩
  | 113 => ⟨S256, .i32⟩
  | 114 => ⟨S256, .i32⟩
  | 115 => ⟨S_, .i32⟩
  | 116 => ⟨S256, .i32⟩
  | 117 => ⟨S256, .i32⟩
  | 118 => ⟨S1x256, .i32⟩
  | 119 => ⟨S256x256, .i32⟩
  | 120 => ⟨S256x256, .i32⟩
  | 121 => ⟨S256x256, .i1⟩
  | 122 => ⟨S256x256, .i1⟩
  | 123 => ⟨S_, .i32⟩
  | 124 => ⟨S_, .i32⟩
  | 125 => ⟨S_, .i32⟩
  | 126 => ⟨S_, .i1⟩
  | 127 => ⟨S_, .i32⟩
  | _ => ⟨S6x200, .bf16⟩

abbrev hbmTy0_1 (i : Nat) : BufTy := match i % 128 with
  | 0 => ⟨S_, .i32⟩
  | 1 => ⟨S256, .i32⟩
  | 2 => ⟨S256, .i32⟩
  | 3 => ⟨S_, .i32⟩
  | 4 => ⟨S256, .i32⟩
  | 5 => ⟨S256, .i1⟩
  | 6 => ⟨S_, .i32⟩
  | 7 => ⟨S256, .i32⟩
  | 8 => ⟨S256, .i1⟩
  | 9 => ⟨S_, .i32⟩
  | 10 => ⟨S_, .i1⟩
  | 11 => ⟨S256, .i1⟩
  | 12 => ⟨S256, .i1⟩
  | 13 => ⟨S256, .i1⟩
  | 14 => ⟨S256, .i32⟩
  | 15 => ⟨S256, .i32⟩
  | 16 => ⟨S256, .i32⟩
  | 17 => ⟨S256x1, .i32⟩
  | 18 => ⟨S_, .i32⟩
  | 19 => ⟨S_, .i32⟩
  | 20 => ⟨S256, .i32⟩
  | 21 => ⟨S256, .i32⟩
  | 22 => ⟨S256, .i32⟩
  | 23 => ⟨S_, .i32⟩
  | 24 => ⟨S256, .i32⟩
  | 25 => ⟨S256, .i1⟩
  | 26 => ⟨S256, .i32⟩
  | 27 => ⟨S256, .i32⟩
  | 28 => ⟨S_, .i32⟩
  | 29 => ⟨S256, .i32⟩
  | 30 => ⟨S256, .i1⟩
  | 31 => ⟨S256, .i1⟩
  | 32 => ⟨S_, .i32⟩
  | 33 => ⟨S256, .i32⟩
  | 34 => ⟨S256, .i32⟩
  | 35 => ⟨S256, .i32⟩
  | 36 => ⟨S_, .i32⟩
  | 37 => ⟨S256, .i32⟩
  | 38 => ⟨S256, .i32⟩
  | 39 => ⟨S1x256, .i32⟩
  | 40 => ⟨S256x256, .i32⟩
  | 41 => ⟨S256x256, .i32⟩
  | 42 => ⟨S256x256, .i1⟩
  | 43 => ⟨S256x256, .i1⟩
  | 44 => ⟨S_, .i32⟩
  | 45 => ⟨S_, .i32⟩
  | 46 => ⟨S_, .i32⟩
  | 47 => ⟨S_, .i1⟩
  | 48 => ⟨S_, .i32⟩
  | 49 => ⟨S_, .i32⟩
  | 50 => ⟨S256, .i32⟩
  | 51 => ⟨S256, .i32⟩
  | 52 => ⟨S_, .i32⟩
  | 53 => ⟨S256, .i32⟩
  | 54 => ⟨S256, .i1⟩
  | 55 => ⟨S_, .i32⟩
  | 56 => ⟨S256, .i32⟩
  | 57 => ⟨S256, .i1⟩
  | 58 => ⟨S_, .i32⟩
  | 59 => ⟨S_, .i1⟩
  | 60 => ⟨S256, .i1⟩
  | 61 => ⟨S256, .i1⟩
  | 62 => ⟨S256, .i1⟩
  | 63 => ⟨S256, .i32⟩
  | 64 => ⟨S256, .i32⟩
  | 65 => ⟨S256, .i32⟩
  | 66 => ⟨S256x1, .i32⟩
  | 67 => ⟨S_, .i32⟩
  | 68 => ⟨S_, .i32⟩
  | 69 => ⟨S256, .i32⟩
  | 70 => ⟨S256, .i32⟩
  | 71 => ⟨S256, .i32⟩
  | 72 => ⟨S_, .i32⟩
  | 73 => ⟨S256, .i32⟩
  | 74 => ⟨S256, .i1⟩
  | 75 => ⟨S256, .i32⟩
  | 76 => ⟨S256, .i32⟩
  | 77 => ⟨S_, .i32⟩
  | 78 => ⟨S256, .i32⟩
  | 79 => ⟨S256, .i1⟩
  | 80 => ⟨S256, .i1⟩
  | 81 => ⟨S_, .i32⟩
  | 82 => ⟨S256, .i32⟩
  | 83 => ⟨S256, .i32⟩
  | 84 => ⟨S256, .i32⟩
  | 85 => ⟨S_, .i32⟩
  | 86 => ⟨S256, .i32⟩
  | 87 => ⟨S256, .i32⟩
  | 88 => ⟨S1x256, .i32⟩
  | 89 => ⟨S256x256, .i32⟩
  | 90 => ⟨S256x256, .i32⟩
  | 91 => ⟨S256x256, .i1⟩
  | 92 => ⟨S256x256, .i1⟩
  | 93 => ⟨S1x256x256, .i1⟩
  | 94 => ⟨S1x256x256, .i1⟩
  | 95 => ⟨S1x256x256, .i1⟩
  | 96 => ⟨S3x256x256, .i1⟩
  | 97 => ⟨S3x256x256, .bf16⟩
  | 98 => ⟨S20x32x131072, .i8⟩
  | 99 => ⟨S6x4194304, .bf16⟩
  | _ => ⟨S6x200, .bf16⟩

abbrev hbmTy (i : Nat) : BufTy := match i / 128 with
  | 0 => hbmTy0_0 i
  | 1 => hbmTy0_1 i
  | _ => ⟨S6x200, .bf16⟩

abbrev bufTy : (tb : Table) → Fin (tcTables nBuf tb) → BufTy
  | .hbm, ⟨i, _⟩ => hbmTy i
  | .local _ .vmem, ⟨0, _⟩ => ⟨S10x6x20x1, .f32⟩
  | .local _ .vmem, ⟨1, _⟩ => ⟨S10x20x256, .f32⟩
  | .local _ .vmem, ⟨2, _⟩ => ⟨S6x20x256, .f32⟩
  | .local _ .vmem, ⟨3, _⟩ => ⟨S6x20x256, .f32⟩
  | .local _ .vmem, ⟨4, _⟩ => ⟨S3x256x256, .bf16⟩
  | .local _ .vmem, ⟨5, _⟩ => ⟨S20x32x1024, .i8⟩
  | .local _ .vmem, ⟨6, _⟩ => ⟨S20x32x1024, .i8⟩
  | .local _ .vmem, ⟨7, _⟩ => ⟨S6x32768, .bf16⟩
  | .local _ .vmem, ⟨8, _⟩ => ⟨S6x32768, .bf16⟩
  | .local _ .vmem, ⟨9, _⟩ => ⟨S6x16x128, .i32⟩
  | _, _ => ⟨S6x200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_c_1 : Ref sig .tc := ⟨.hbm, 38, rfl⟩
abbrev main_call1_v5 : Ref sig .tc := ⟨.hbm, 39, rfl⟩
abbrev main_call1_v6 : Ref sig .tc := ⟨.hbm, 40, rfl⟩
abbrev main_call1_c_2 : Ref sig .tc := ⟨.hbm, 41, rfl⟩
abbrev main_call1_v7 : Ref sig .tc := ⟨.hbm, 42, rfl⟩
abbrev main_call1_v8 : Ref sig .tc := ⟨.hbm, 43, rfl⟩
abbrev main_call1_c_3 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_v10 : Ref sig .tc := ⟨.hbm, 51, rfl⟩
abbrev main_c_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_v6 : Ref sig .tc := ⟨.hbm, 59, rfl⟩
abbrev main_call2_v7 : Ref sig .tc := ⟨.hbm, 60, rfl⟩
abbrev main_call2_v8 : Ref sig .tc := ⟨.hbm, 61, rfl⟩
abbrev main_call2_c : Ref sig .tc := ⟨.hbm, 62, rfl⟩
abbrev main_call2_v9 : Ref sig .tc := ⟨.hbm, 63, rfl⟩
abbrev main_call2_v10 : Ref sig .tc := ⟨.hbm, 64, rfl⟩
abbrev main_call2_v11 : Ref sig .tc := ⟨.hbm, 65, rfl⟩
abbrev main_call2_c_0 : Ref sig .tc := ⟨.hbm, 66, rfl⟩
abbrev main_call2_v12 : Ref sig .tc := ⟨.hbm, 67, rfl⟩
abbrev main_call2_v13 : Ref sig .tc := ⟨.hbm, 68, rfl⟩
abbrev main_v11 : Ref sig .tc := ⟨.hbm, 69, rfl⟩
abbrev main_v12 : Ref sig .tc := ⟨.hbm, 70, rfl⟩
abbrev main_v13 : Ref sig .tc := ⟨.hbm, 71, rfl⟩
abbrev main_v14 : Ref sig .tc := ⟨.hbm, 72, rfl⟩
abbrev main_v15 : Ref sig .tc := ⟨.hbm, 73, rfl⟩
abbrev main_c_2 : Ref sig .tc := ⟨.hbm, 74, rfl⟩
abbrev main_call3_v0 : Ref sig .tc := ⟨.hbm, 75, rfl⟩
abbrev main_call3_c : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_c_1 : Ref sig .tc := ⟨.hbm, 82, rfl⟩
abbrev main_call3_v5 : Ref sig .tc := ⟨.hbm, 83, rfl⟩
abbrev main_call3_v6 : Ref sig .tc := ⟨.hbm, 84, rfl⟩
abbrev main_call3_c_2 : Ref sig .tc := ⟨.hbm, 85, rfl⟩
abbrev main_call3_v7 : Ref sig .tc := ⟨.hbm, 86, rfl⟩
abbrev main_call3_v8 : Ref sig .tc := ⟨.hbm, 87, rfl⟩
abbrev main_call3_c_3 : Ref sig .tc := ⟨.hbm, 88, rfl⟩
abbrev main_call3_v9 : Ref sig .tc := ⟨.hbm, 89, rfl⟩
abbrev main_call3_v10 : Ref sig .tc := ⟨.hbm, 90, rfl⟩
abbrev main_call3_v11 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_v16 : Ref sig .tc := ⟨.hbm, 95, rfl⟩
abbrev main_v17 : Ref sig .tc := ⟨.hbm, 96, rfl⟩
abbrev main_c_3 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_v6 : Ref sig .tc := ⟨.hbm, 104, rfl⟩
abbrev main_call4_v7 : Ref sig .tc := ⟨.hbm, 105, rfl⟩
abbrev main_call4_v8 : Ref sig .tc := ⟨.hbm, 106, rfl⟩
abbrev main_call4_c : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_c_0 : Ref sig .tc := ⟨.hbm, 111, rfl⟩
abbrev main_call4_v12 : Ref sig .tc := ⟨.hbm, 112, rfl⟩
abbrev main_call4_v13 : Ref sig .tc := ⟨.hbm, 113, rfl⟩
abbrev main_v18 : Ref sig .tc := ⟨.hbm, 114, rfl⟩
abbrev main_c_4 : Ref sig .tc := ⟨.hbm, 115, rfl⟩
abbrev main_v19 : Ref sig .tc := ⟨.hbm, 116, rfl⟩
abbrev main_v20 : Ref sig .tc := ⟨.hbm, 117, rfl⟩
abbrev main_v21 : Ref sig .tc := ⟨.hbm, 118, rfl⟩
abbrev main_v22 : Ref sig .tc := ⟨.hbm, 119, rfl⟩
abbrev main_v23 : Ref sig .tc := ⟨.hbm, 120, rfl⟩
abbrev main_v24 : Ref sig .tc := ⟨.hbm, 121, rfl⟩
abbrev main_v25 : Ref sig .tc := ⟨.hbm, 122, rfl⟩
abbrev main_c_5 : Ref sig .tc := ⟨.hbm, 123, rfl⟩
abbrev main_call5_v0 : Ref sig .tc := ⟨.hbm, 124, rfl⟩
abbrev main_call5_c : Ref sig .tc := ⟨.hbm, 125, rfl⟩
abbrev main_call5_v1 : Ref sig .tc := ⟨.hbm, 126, rfl⟩
abbrev main_call5_c_0 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_call5_c_1 : Ref sig .tc := ⟨.hbm, 131, rfl⟩
abbrev main_call5_v5 : Ref sig .tc := ⟨.hbm, 132, rfl⟩
abbrev main_call5_v6 : Ref sig .tc := ⟨.hbm, 133, rfl⟩
abbrev main_call5_c_2 : Ref sig .tc := ⟨.hbm, 134, rfl⟩
abbrev main_call5_v7 : Ref sig .tc := ⟨.hbm, 135, rfl⟩
abbrev main_call5_v8 : Ref sig .tc := ⟨.hbm, 136, rfl⟩
abbrev main_call5_c_3 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_v12 : Ref sig .tc := ⟨.hbm, 141, rfl⟩
abbrev main_call5_v13 : Ref sig .tc := ⟨.hbm, 142, rfl⟩
abbrev main_call5_v14 : Ref sig .tc := ⟨.hbm, 143, rfl⟩
abbrev main_v26 : Ref sig .tc := ⟨.hbm, 144, rfl⟩
abbrev main_v27 : Ref sig .tc := ⟨.hbm, 145, rfl⟩
abbrev main_c_6 : Ref sig .tc := ⟨.hbm, 146, rfl⟩
abbrev main_call6_v0 : Ref sig .tc := ⟨.hbm, 147, rfl⟩
abbrev main_call6_v1 : Ref sig .tc := ⟨.hbm, 148, rfl⟩
abbrev main_call6_v2 : Ref sig .tc := ⟨.hbm, 149, rfl⟩
abbrev main_call6_v3 : Ref sig .tc := ⟨.hbm, 150, rfl⟩
abbrev main_call6_v4 : Ref sig .tc := ⟨.hbm, 151, rfl⟩
abbrev main_call6_v5 : Ref sig .tc := ⟨.hbm, 152, rfl⟩
abbrev main_call6_v6 : Ref sig .tc := ⟨.hbm, 153, rfl⟩
abbrev main_call6_v7 : Ref sig .tc := ⟨.hbm, 154, rfl⟩
abbrev main_call6_v8 : Ref sig .tc := ⟨.hbm, 155, rfl⟩
abbrev main_call6_c : Ref sig .tc := ⟨.hbm, 156, rfl⟩
abbrev main_call6_v9 : Ref sig .tc := ⟨.hbm, 157, rfl⟩
abbrev main_call6_v10 : Ref sig .tc := ⟨.hbm, 158, rfl⟩
abbrev main_call6_v11 : Ref sig .tc := ⟨.hbm, 159, rfl⟩
abbrev main_call6_c_0 : Ref sig .tc := ⟨.hbm, 160, rfl⟩
abbrev main_call6_v12 : Ref sig .tc := ⟨.hbm, 161, rfl⟩
abbrev main_call6_v13 : Ref sig .tc := ⟨.hbm, 162, rfl⟩
abbrev main_v28 : Ref sig .tc := ⟨.hbm, 163, rfl⟩
abbrev main_c_7 : Ref sig .tc := ⟨.hbm, 164, rfl⟩
abbrev main_v29 : Ref sig .tc := ⟨.hbm, 165, rfl⟩
abbrev main_v30 : Ref sig .tc := ⟨.hbm, 166, rfl⟩
abbrev main_v31 : Ref sig .tc := ⟨.hbm, 167, rfl⟩
abbrev main_v32 : Ref sig .tc := ⟨.hbm, 168, rfl⟩
abbrev main_v33 : Ref sig .tc := ⟨.hbm, 169, rfl⟩
abbrev main_v34 : Ref sig .tc := ⟨.hbm, 170, rfl⟩
abbrev main_v35 : Ref sig .tc := ⟨.hbm, 171, rfl⟩
abbrev main_c_8 : Ref sig .tc := ⟨.hbm, 172, rfl⟩
abbrev main_call7_v0 : Ref sig .tc := ⟨.hbm, 173, rfl⟩
abbrev main_call7_c : Ref sig .tc := ⟨.hbm, 174, rfl⟩
abbrev main_call7_v1 : Ref sig .tc := ⟨.hbm, 175, rfl⟩
abbrev main_call7_c_0 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_call7_c_1 : Ref sig .tc := ⟨.hbm, 180, rfl⟩
abbrev main_call7_v5 : Ref sig .tc := ⟨.hbm, 181, rfl⟩
abbrev main_call7_v6 : Ref sig .tc := ⟨.hbm, 182, rfl⟩
abbrev main_call7_c_2 : Ref sig .tc := ⟨.hbm, 183, rfl⟩
abbrev main_call7_v7 : Ref sig .tc := ⟨.hbm, 184, rfl⟩
abbrev main_call7_v8 : Ref sig .tc := ⟨.hbm, 185, rfl⟩
abbrev main_call7_c_3 : Ref sig .tc := ⟨.hbm, 186, rfl⟩
abbrev main_call7_v9 : Ref sig .tc := ⟨.hbm, 187, rfl⟩
abbrev main_call7_v10 : Ref sig .tc := ⟨.hbm, 188, rfl⟩
abbrev main_call7_v11 : Ref sig .tc := ⟨.hbm, 189, rfl⟩
abbrev main_call7_v12 : Ref sig .tc := ⟨.hbm, 190, rfl⟩
abbrev main_call7_v13 : Ref sig .tc := ⟨.hbm, 191, rfl⟩
abbrev main_call7_v14 : Ref sig .tc := ⟨.hbm, 192, rfl⟩
abbrev main_v36 : Ref sig .tc := ⟨.hbm, 193, rfl⟩
abbrev main_v37 : Ref sig .tc := ⟨.hbm, 194, rfl⟩
abbrev main_c_9 : Ref sig .tc := ⟨.hbm, 195, rfl⟩
abbrev main_call8_v0 : Ref sig .tc := ⟨.hbm, 196, rfl⟩
abbrev main_call8_v1 : Ref sig .tc := ⟨.hbm, 197, rfl⟩
abbrev main_call8_v2 : Ref sig .tc := ⟨.hbm, 198, rfl⟩
abbrev main_call8_v3 : Ref sig .tc := ⟨.hbm, 199, rfl⟩
abbrev main_call8_v4 : Ref sig .tc := ⟨.hbm, 200, rfl⟩
abbrev main_call8_v5 : Ref sig .tc := ⟨.hbm, 201, rfl⟩
abbrev main_call8_v6 : Ref sig .tc := ⟨.hbm, 202, rfl⟩
abbrev main_call8_v7 : Ref sig .tc := ⟨.hbm, 203, rfl⟩
abbrev main_call8_v8 : Ref sig .tc := ⟨.hbm, 204, rfl⟩
abbrev main_call8_c : Ref sig .tc := ⟨.hbm, 205, rfl⟩
abbrev main_call8_v9 : Ref sig .tc := ⟨.hbm, 206, rfl⟩
abbrev main_call8_v10 : Ref sig .tc := ⟨.hbm, 207, rfl⟩
abbrev main_call8_v11 : Ref sig .tc := ⟨.hbm, 208, rfl⟩
abbrev main_call8_c_0 : Ref sig .tc := ⟨.hbm, 209, rfl⟩
abbrev main_call8_v12 : Ref sig .tc := ⟨.hbm, 210, rfl⟩
abbrev main_call8_v13 : Ref sig .tc := ⟨.hbm, 211, rfl⟩
abbrev main_v38 : Ref sig .tc := ⟨.hbm, 212, rfl⟩
abbrev main_c_10 : Ref sig .tc := ⟨.hbm, 213, rfl⟩
abbrev main_v39 : Ref sig .tc := ⟨.hbm, 214, rfl⟩
abbrev main_v40 : Ref sig .tc := ⟨.hbm, 215, rfl⟩
abbrev main_v41 : Ref sig .tc := ⟨.hbm, 216, rfl⟩
abbrev main_v42 : Ref sig .tc := ⟨.hbm, 217, rfl⟩
abbrev main_v43 : Ref sig .tc := ⟨.hbm, 218, rfl⟩
abbrev main_v44 : Ref sig .tc := ⟨.hbm, 219, rfl⟩
abbrev main_v45 : Ref sig .tc := ⟨.hbm, 220, rfl⟩
abbrev main_v46 : Ref sig .tc := ⟨.hbm, 221, rfl⟩
abbrev main_v47 : Ref sig .tc := ⟨.hbm, 222, rfl⟩
abbrev main_v48 : Ref sig .tc := ⟨.hbm, 223, rfl⟩
abbrev main_v49 : Ref sig .tc := ⟨.hbm, 224, rfl⟩
abbrev main_v50 : Ref sig .tc := ⟨.hbm, 225, rfl⟩
abbrev main_v51 : Ref sig .tc := ⟨.hbm, 226, rfl⟩
abbrev main_v52 : Ref sig .tc := ⟨.hbm, 227, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg2_1 : Ref sig .tc := ⟨.vmem, 6, rfl⟩
abbrev cc1_stg3_0 : Ref sig .tc := ⟨.vmem, 7, rfl⟩
abbrev cc1_stg3_1 : Ref sig .tc := ⟨.vmem, 8, rfl⟩
abbrev cc1_scratch0 : Ref sig .tc := ⟨.vmem, 9, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8

abbrev nD : Nat := 1
abbrev τ : Topo := Topo.v7x

variable {F : FTy → Type} [BitOps F]

abbrev grid0 : Pipeline.Grid := .none

abbrev stage0_0 : Fin 1 → Memref sig .tc .vmem S10x6x20x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x20x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x20x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![128], ![false]⟩

@[reducible] def k1_t1_loop : Scf.Loop 32 :=
  let c0_i32 : BitVec 32 := 0#32
  let c8_i32 : BitVec 32 := 8#32
  let v1 : BitVec 32 := Scalar.addi c0_i32 c8_i32
  let c1_i32 : BitVec 32 := 1#32
  ⟨c0_i32, v1, c1_i32⟩
def k1_mult1 (k1_t1 : Fin k1_t1_loop.trips) : BitVec 32 :=
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  v2
def k1_off1 (k1_t1 : Fin k1_t1_loop.trips) : Fin 3 → Nat :=
  let c0 : Index := 0#32
  let c0_1 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v4 : Index := Scalar.indexCast v3
  ![0, 0, v4.toNat]
def k1_off2 (k1_t1 : Fin k1_t1_loop.trips) : Fin 3 → Nat :=
  let c1_45 : Index := 1#32
  let c0_46 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v256 : Index := Scalar.indexCast v3
  ![1, 0, v256.toNat]
def k1_off3 (k1_t1 : Fin k1_t1_loop.trips) : Fin 3 → Nat :=
  let c2_99 : Index := 2#32
  let c0_100 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v532 : Index := Scalar.indexCast v3
  ![2, 0, v532.toNat]
def k1_off4 (k1_t1 : Fin k1_t1_loop.trips) : Fin 3 → Nat :=
  let c3_153 : Index := 3#32
  let c0_154 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v808 : Index := Scalar.indexCast v3
  ![3, 0, v808.toNat]
def k1_off5 (k1_t1 : Fin k1_t1_loop.trips) : Fin 3 → Nat :=
  let c4_207 : Index := 4#32
  let c0_208 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v1084 : Index := Scalar.indexCast v3
  ![4, 0, v1084.toNat]
def k1_off6 (k1_t1 : Fin k1_t1_loop.trips) : Fin 3 → Nat :=
  let c5_261 : Index := 5#32
  let c0_262 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v1360 : Index := Scalar.indexCast v3
  ![5, 0, v1360.toNat]
def k1_off7 (k1_t1 : Fin k1_t1_loop.trips) : Fin 3 → Nat :=
  let c6 : Index := 6#32
  let c0_315 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v1636 : Index := Scalar.indexCast v3
  ![6, 0, v1636.toNat]
def k1_off8 (k1_t1 : Fin k1_t1_loop.trips) : Fin 3 → Nat :=
  let c7 : Index := 7#32
  let c0_368 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v1912 : Index := Scalar.indexCast v3
  ![7, 0, v1912.toNat]
def k1_off9 (k1_t1 : Fin k1_t1_loop.trips) : Fin 3 → Nat :=
  let c8 : Index := 8#32
  let c0_421 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v2188 : Index := Scalar.indexCast v3
  ![8, 0, v2188.toNat]
def k1_off10 (k1_t1 : Fin k1_t1_loop.trips) : Fin 3 → Nat :=
  let c9 : Index := 9#32
  let c0_474 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v2464 : Index := Scalar.indexCast v3
  ![9, 0, v2464.toNat]
def k1_off11 (k1_t1 : Fin k1_t1_loop.trips) : Fin 3 → Nat :=
  let c10 : Index := 10#32
  let c0_527 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v2740 : Index := Scalar.indexCast v3
  ![10, 0, v2740.toNat]
def k1_off12 (k1_t1 : Fin k1_t1_loop.trips) : Fin 3 → Nat :=
  let c11 : Index := 11#32
  let c0_580 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v3016 : Index := Scalar.indexCast v3
  ![11, 0, v3016.toNat]
def k1_off13 (k1_t1 : Fin k1_t1_loop.trips) : Fin 3 → Nat :=
  let c12 : Index := 12#32
  let c0_633 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v3292 : Index := Scalar.indexCast v3
  ![12, 0, v3292.toNat]
def k1_off14 (k1_t1 : Fin k1_t1_loop.trips) : Fin 3 → Nat :=
  let c13 : Index := 13#32
  let c0_686 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v3568 : Index := Scalar.indexCast v3
  ![13, 0, v3568.toNat]
def k1_off15 (k1_t1 : Fin k1_t1_loop.trips) : Fin 3 → Nat :=
  let c14 : Index := 14#32
  let c0_739 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v3844 : Index := Scalar.indexCast v3
  ![14, 0, v3844.toNat]
def k1_off16 (k1_t1 : Fin k1_t1_loop.trips) : Fin 3 → Nat :=
  let c15 : Index := 15#32
  let c0_792 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v4120 : Index := Scalar.indexCast v3
  ![15, 0, v4120.toNat]
def k1_off17 (k1_t1 : Fin k1_t1_loop.trips) : Fin 3 → Nat :=
  let c16 : Index := 16#32
  let c0_845 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v4396 : Index := Scalar.indexCast v3
  ![16, 0, v4396.toNat]
def k1_off18 (k1_t1 : Fin k1_t1_loop.trips) : Fin 3 → Nat :=
  let c17 : Index := 17#32
  let c0_898 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v4672 : Index := Scalar.indexCast v3
  ![17, 0, v4672.toNat]
def k1_off19 (k1_t1 : Fin k1_t1_loop.trips) : Fin 3 → Nat :=
  let c18 : Index := 18#32
  let c0_951 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v4948 : Index := Scalar.indexCast v3
  ![18, 0, v4948.toNat]
def k1_off20 (k1_t1 : Fin k1_t1_loop.trips) : Fin 3 → Nat :=
  let c19 : Index := 19#32
  let c0_1004 : Index := 0#32
  let c0_i32 : BitVec 32 := 0#32
  let c1_i32 : BitVec 32 := 1#32
  let arg6 : BitVec 32 := Scf.iv c0_i32 c1_i32 k1_t1
  let c128_i32 : BitVec 32 := 128#32
  let v2 : BitVec 32 := Scalar.muli arg6 c128_i32
  let v3 : BitVec 32 := v2
  let v5224 : Index := Scalar.indexCast v3
  ![19, 0, v5224.toNat]
def k1_mult2 (k1_t1 : Fin k1_t1_loop.trips) : BitVec 32 :=
  let c0_i32 : BitVec 32 := 0#32
  let c1_i32 : BitVec 32 := 1#32
  let arg6 : BitVec 32 := Scf.iv c0_i32 c1_i32 k1_t1
  let c4096_i32 : BitVec 32 := 4096#32
  let v6007 : BitVec 32 := Scalar.muli arg6 c4096_i32
  v6007
def k1_off21 (k1_t1 : Fin k1_t1_loop.trips) (c0_i32_1293 : BitVec 32) : Fin 2 → Nat :=
  let c0_1294 : Index := 0#32
  let c0_i32 : BitVec 32 := 0#32
  let c1_i32 : BitVec 32 := 1#32
  let arg6 : BitVec 32 := Scf.iv c0_i32 c1_i32 k1_t1
  let c4096_i32 : BitVec 32 := 4096#32
  let v6007 : BitVec 32 := Scalar.muli arg6 c4096_i32
  let v6008 : BitVec 32 := v6007
  let v6010 : BitVec 32 := Scalar.addi v6008 c0_i32_1293
  let v6011 : Index := Scalar.indexCast v6010
  ![0, v6011.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S6x20x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S3x256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S20x32x1024 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S6x32768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== KernelIdeal.lean ====
abbrev S6x16x2x128 : Shape := ⟨4, ![6, 16, 2, 128]⟩
abbrev S6x16x1x128 : Shape := ⟨4, ![6, 16, 1, 128]⟩
abbrev S1x8x2x128 : Shape := ⟨4, ![1, 8, 2, 128]⟩
abbrev S1x8x1x128 : Shape := ⟨4, ![1, 8, 1, 128]⟩
abbrev S1x16x2x128 : Shape := ⟨4, ![1, 16, 2, 128]⟩
abbrev S1x16x1x128 : Shape := ⟨4, ![1, 16, 1, 128]⟩
  | .local _ .vmem, ⟨9, _⟩ => ⟨S6x16x2x128, .bf16⟩
variable {F : FTy → Type} [FloatOps F]
-- ==== ReferenceIdeal.lean ====
abbrev S6x200 : Shape := ⟨2, ![6, 200]⟩
abbrev S20x256x10 : Shape := ⟨3, ![20, 256, 10]⟩
abbrev S131072x20x32 : Shape := ⟨3, ![131072, 20, 32]⟩
abbrev S6x20x10 : Shape := ⟨3, ![6, 20, 10]⟩
abbrev S6x20x1x10 : Shape := ⟨4, ![6, 20, 1, 10]⟩
abbrev S1x20x256x10 : Shape := ⟨4, ![1, 20, 256, 10]⟩
abbrev S6x20x256x10 : Shape := ⟨4, ![6, 20, 256, 10]⟩
abbrev S_ : Shape := ⟨0, ![]⟩
abbrev S6x20x256 : Shape := ⟨3, ![6, 20, 256]⟩
abbrev S20 : Shape := ⟨1, ![20]⟩
abbrev S1x20x1 : Shape := ⟨3, ![1, 20, 1]⟩
abbrev S131072x20x32x1 : Shape := ⟨4, ![131072, 20, 32, 1]⟩
abbrev S131072x20x32x2 : Shape := ⟨4, ![131072, 20, 32, 2]⟩
abbrev S6x131072x20x32 : Shape := ⟨4, ![6, 131072, 20, 32]⟩
abbrev S6x131072x32 : Shape := ⟨3, ![6, 131072, 32]⟩
abbrev S6x4194304 : Shape := ⟨2, ![6, 4194304]⟩

abbrev nBuf : Space → Nat
  | .hbm => 39
  | .vmem => 0
  | .smem => 0
  | _ => 0

abbrev bufTy : (tb : Table) → Fin (tcTables nBuf tb) → BufTy
  | .hbm, ⟨0, _⟩ => ⟨S6x200, .bf16⟩
  | .hbm, ⟨1, _⟩ => ⟨S20x256x10, .f32⟩
  | .hbm, ⟨2, _⟩ => ⟨S131072x20x32, .i8⟩
  | .hbm, ⟨3, _⟩ => ⟨S6x200, .f32⟩
  | .hbm, ⟨4, _⟩ => ⟨S6x20x10, .f32⟩
  | .hbm, ⟨5, _⟩ => ⟨S6x20x1x10, .f32⟩
  | .hbm, ⟨6, _⟩ => ⟨S1x20x256x10, .f32⟩
  | .hbm, ⟨7, _⟩ => ⟨S6x20x256x10, .f32⟩
  | .hbm, ⟨8, _⟩ => ⟨S6x20x256x10, .f32⟩
  | .hbm, ⟨9, _⟩ => ⟨S6x20x256x10, .f32⟩
  | .hbm, ⟨10, _⟩ => ⟨S6x20x256x10, .f32⟩
  | .hbm, ⟨11, _⟩ => ⟨S_, .f32⟩
  | .hbm, ⟨12, _⟩ => ⟨S6x20x256, .f32⟩
  | .hbm, ⟨13, _⟩ => ⟨S20, .i32⟩
  | .hbm, ⟨14, _⟩ => ⟨S1x20x1, .i32⟩
  | .hbm, ⟨15, _⟩ => ⟨S131072x20x32, .i32⟩
  | .hbm, ⟨16, _⟩ => ⟨S_, .i32⟩
  | .hbm, ⟨17, _⟩ => ⟨S1x20x1, .i32⟩
  | .hbm, ⟨18, _⟩ => ⟨S1x20x1, .i1⟩
  | .hbm, ⟨19, _⟩ => ⟨S_, .i32⟩
  | .hbm, ⟨20, _⟩ => ⟨S1x20x1, .i32⟩
  | .hbm, ⟨21, _⟩ => ⟨S1x20x1, .i32⟩
  | .hbm, ⟨22, _⟩ => ⟨S1x20x1, .i32⟩
  | .hbm, ⟨23, _⟩ => ⟨S_, .i32⟩
  | .hbm, ⟨24, _⟩ => ⟨S131072x20x32, .i32⟩
  | .hbm, ⟨25, _⟩ => ⟨S131072x20x32, .i1⟩
  | .hbm, ⟨26, _⟩ => ⟨S_, .i32⟩
  | .hbm, ⟨27, _⟩ => ⟨S131072x20x32, .i32⟩
  | .hbm, ⟨28, _⟩ => ⟨S131072x20x32, .i32⟩
  | .hbm, ⟨29, _⟩ => ⟨S131072x20x32, .i32⟩
  | .hbm, ⟨30, _⟩ => ⟨S131072x20x32, .i32⟩
  | .hbm, ⟨31, _⟩ => ⟨S131072x20x32x1, .i32⟩
  | .hbm, ⟨32, _⟩ => ⟨S131072x20x32x1, .i32⟩
  | .hbm, ⟨33, _⟩ => ⟨S131072x20x32x2, .i32⟩
  | .hbm, ⟨34, _⟩ => ⟨S6x131072x20x32, .f32⟩
  | .hbm, ⟨35, _⟩ => ⟨S_, .f32⟩
  | .hbm, ⟨36, _⟩ => ⟨S6x131072x32, .f32⟩
  | .hbm, ⟨37, _⟩ => ⟨S6x4194304, .f32⟩
  | .hbm, ⟨38, _⟩ => ⟨S6x4194304, .bf16⟩
  | _, _ => ⟨S6x200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c_1 : Ref sig .tc := ⟨.hbm, 23, rfl⟩
abbrev main_v17 : Ref sig .tc := ⟨.hbm, 24, rfl⟩
abbrev main_v18 : Ref sig .tc := ⟨.hbm, 25, rfl⟩
abbrev main_c_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Proof.LutK.lean ====
/-
The region of the `lut` call: the distances of the query sub-vectors to the codewords.

`dat0` is what the pipeline's proof asks of the call: the arrays as the region finds them (`V`), and what the body leaves in
each staging buffer; `body_obligation0` is the body's triple, and `out0_2` the closed form of the block of distances.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_lut` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10x6x20x1 := Rect.unit (s := S10x6x20x1) ![0, 0, 0, 0] S1x1x20x1.size inb_S10x6x20x1_S1x1x20x1_0_0_0_0
abbrev r0_1 : Rect S10x20x256 := Rect.unit (s := S10x20x256) ![0, 0, 0] S1x20x256.size inb_S10x20x256_S1x20x256_0_0_0
abbrev r0_2 : Rect S10x6x20x1 := Rect.unit (s := S10x6x20x1) ![1, 0, 0, 0] S1x1x20x1.size inb_S10x6x20x1_S1x1x20x1_1_0_0_0
abbrev r0_3 : Rect S10x20x256 := Rect.unit (s := S10x20x256) ![1, 0, 0] S1x20x256.size inb_S10x20x256_S1x20x256_1_0_0
abbrev r0_4 : Rect S10x6x20x1 := Rect.unit (s := S10x6x20x1) ![2, 0, 0, 0] S1x1x20x1.size inb_S10x6x20x1_S1x1x20x1_2_0_0_0
abbrev r0_5 : Rect S10x20x256 := Rect.unit (s := S10x20x256) ![2, 0, 0] S1x20x256.size inb_S10x20x256_S1x20x256_2_0_0
abbrev r0_6 : Rect S10x6x20x1 := Rect.unit (s := S10x6x20x1) ![3, 0, 0, 0] S1x1x20x1.size inb_S10x6x20x1_S1x1x20x1_3_0_0_0
abbrev r0_7 : Rect S10x20x256 := Rect.unit (s := S10x20x256) ![3, 0, 0] S1x20x256.size inb_S10x20x256_S1x20x256_3_0_0
abbrev r0_8 : Rect S10x6x20x1 := Rect.unit (s := S10x6x20x1) ![4, 0, 0, 0] S1x1x20x1.size inb_S10x6x20x1_S1x1x20x1_4_0_0_0
abbrev r0_9 : Rect S10x20x256 := Rect.unit (s := S10x20x256) ![4, 0, 0] S1x20x256.size inb_S10x20x256_S1x20x256_4_0_0
abbrev r0_10 : Rect S10x6x20x1 := Rect.unit (s := S10x6x20x1) ![5, 0, 0, 0] S1x1x20x1.size inb_S10x6x20x1_S1x1x20x1_5_0_0_0
abbrev r0_11 : Rect S10x20x256 := Rect.unit (s := S10x20x256) ![5, 0, 0] S1x20x256.size inb_S10x20x256_S1x20x256_5_0_0
abbrev r0_12 : Rect S10x6x20x1 := Rect.unit (s := S10x6x20x1) ![6, 0, 0, 0] S1x1x20x1.size inb_S10x6x20x1_S1x1x20x1_6_0_0_0
abbrev r0_13 : Rect S10x20x256 := Rect.unit (s := S10x20x256) ![6, 0, 0] S1x20x256.size inb_S10x20x256_S1x20x256_6_0_0
abbrev r0_14 : Rect S10x6x20x1 := Rect.unit (s := S10x6x20x1) ![7, 0, 0, 0] S1x1x20x1.size inb_S10x6x20x1_S1x1x20x1_7_0_0_0
abbrev r0_15 : Rect S10x20x256 := Rect.unit (s := S10x20x256) ![7, 0, 0] S1x20x256.size inb_S10x20x256_S1x20x256_7_0_0
abbrev r0_16 : Rect S10x6x20x1 := Rect.unit (s := S10x6x20x1) ![8, 0, 0, 0] S1x1x20x1.size inb_S10x6x20x1_S1x1x20x1_8_0_0_0
abbrev r0_17 : Rect S10x20x256 := Rect.unit (s := S10x20x256) ![8, 0, 0] S1x20x256.size inb_S10x20x256_S1x20x256_8_0_0
abbrev r0_18 : Rect S10x6x20x1 := Rect.unit (s := S10x6x20x1) ![9, 0, 0, 0] S1x1x20x1.size inb_S10x6x20x1_S1x1x20x1_9_0_0_0
abbrev r0_19 : Rect S10x20x256 := Rect.unit (s := S10x20x256) ![9, 0, 0] S1x20x256.size inb_S10x20x256_S1x20x256_9_0_0
abbrev r0_20 : Rect S6x20x256 := Rect.unit (s := S6x20x256) ![0, 0, 0] S1x20x256.size inb_S6x20x256_S1x20x256_0_0_0
abbrev r0_21 : Rect S10x6x20x1 := Rect.unit (s := S10x6x20x1) ![0, 1, 0, 0] S1x1x20x1.size inb_S10x6x20x1_S1x1x20x1_0_1_0_0
abbrev r0_22 : Rect S10x6x20x1 := Rect.unit (s := S10x6x20x1) ![1, 1, 0, 0] S1x1x20x1.size inb_S10x6x20x1_S1x1x20x1_1_1_0_0
abbrev r0_23 : Rect S10x6x20x1 := Rect.unit (s := S10x6x20x1) ![2, 1, 0, 0] S1x1x20x1.size inb_S10x6x20x1_S1x1x20x1_2_1_0_0
abbrev r0_24 : Rect S10x6x20x1 := Rect.unit (s := S10x6x20x1) ![3, 1, 0, 0] S1x1x20x1.size inb_S10x6x20x1_S1x1x20x1_3_1_0_0
abbrev r0_25 : Rect S10x6x20x1 := Rect.unit (s := S10x6x20x1) ![4, 1, 0, 0] S1x1x20x1.size inb_S10x6x20x1_S1x1x20x1_4_1_0_0
abbrev r0_26 : Rect S10x6x20x1 := Rect.unit (s := S10x6x20x1) ![5, 1, 0, 0] S1x1x20x1.size inb_S10x6x20x1_S1x1x20x1_5_1_0_0
abbrev r0_27 : Rect S10x6x20x1 := Rect.unit (s := S10x6x20x1) ![6, 1, 0, 0] S1x1x20x1.size inb_S10x6x20x1_S1x1x20x1_6_1_0_0
abbrev r0_28 : Rect S10x6x20x1 := Rect.unit (s := S10x6x20x1) ![7, 1, 0, 0] S1x1x20x1.size inb_S10x6x20x1_S1x1x20x1_7_1_0_0
abbrev r0_29 : Rect S10x6x20x1 := Rect.unit (s := S10x6x20x1) ![8, 1, 0, 0] S1x1x20x1.size inb_S10x6x20x1_S1x1x20x1_8_1_0_0
abbrev r0_30 : Rect S10x6x20x1 := Rect.unit (s := S10x6x20x1) ![9, 1, 0, 0] S1x1x20x1.size inb_S10x6x20x1_S1x1x20x1_9_1_0_0
abbrev r0_31 : Rect S6x20x256 := Rect.unit (s := S6x20x256) ![1, 0, 0] S1x20x256.size inb_S6x20x256_S1x20x256_1_0_0
abbrev r0_32 : Rect S10x6x20x1 := Rect.unit (s := S10x6x20x1) ![0, 2, 0, 0] S1x1x20x1.size inb_S10x6x20x1_S1x1x20x1_0_2_0_0
abbrev r0_33 : Rect S10x6x20x1 := Rect.unit (s := S10x6x20x1) ![1, 2, 0, 0] S1x1x20x1.size inb_S10x6x20x1_S1x1x20x1_1_2_0_0
abbrev r0_34 : Rect S10x6x20x1 := Rect.unit (s := S10x6x20x1) ![2, 2, 0, 0] S1x1x20x1.size inb_S10x6x20x1_S1x1x20x1_2_2_0_0
abbrev r0_35 : Rect S10x6x20x1 := Rect.unit (s := S10x6x20x1) ![3, 2, 0, 0] S1x1x20x1.size inb_S10x6x20x1_S1x1x20x1_3_2_0_0
abbrev r0_36 : Rect S10x6x20x1 := Rect.unit (s := S10x6x20x1) ![4, 2, 0, 0] S1x1x20x1.size inb_S10x6x20x1_S1x1x20x1_4_2_0_0
abbrev r0_37 : Rect S10x6x20x1 := Rect.unit (s := S10x6x20x1) ![5, 2, 0, 0] S1x1x20x1.size inb_S10x6x20x1_S1x1x20x1_5_2_0_0
abbrev r0_38 : Rect S10x6x20x1 := Rect.unit (s := S10x6x20x1) ![6, 2, 0, 0] S1x1x20x1.size inb_S10x6x20x1_S1x1x20x1_6_2_0_0
abbrev r0_39 : Rect S10x6x20x1 := Rect.unit (s := S10x6x20x1) ![7, 2, 0, 0] S1x1x20x1.size inb_S10x6x20x1_S1x1x20x1_7_2_0_0
abbrev r0_40 : Rect S10x6x20x1 := Rect.unit (s := S10x6x20x1) ![8, 2, 0, 0] S1x1x20x1.size inb_S10x6x20x1_S1x1x20x1_8_2_0_0
abbrev r0_41 : Rect S10x6x20x1 := Rect.unit (s := S10x6x20x1) ![9, 2, 0, 0] S1x1x20x1.size inb_S10x6x20x1_S1x1x20x1_9_2_0_0
abbrev r0_42 : Rect S6x20x256 := Rect.unit (s := S6x20x256) ![2, 0, 0] S1x20x256.size inb_S6x20x256_S1x20x256_2_0_0
abbrev r0_43 : Rect S10x6x20x1 := Rect.unit (s := S10x6x20x1) ![0, 3, 0, 0] S1x1x20x1.size inb_S10x6x20x1_S1x1x20x1_0_3_0_0
abbrev r0_44 : Rect S10x6x20x1 := Rect.unit (s := S10x6x20x1) ![1, 3, 0, 0] S1x1x20x1.size inb_S10x6x20x1_S1x1x20x1_1_3_0_0
abbrev r0_45 : Rect S10x6x20x1 := Rect.unit (s := S10x6x20x1) ![2, 3, 0, 0] S1x1x20x1.size inb_S10x6x20x1_S1x1x20x1_2_3_0_0
abbrev r0_46 : Rect S10x6x20x1 := Rect.unit (s := S10x6x20x1) ![3, 3, 0, 0] S1x1x20x1.size inb_S10x6x20x1_S1x1x20x1_3_3_0_0
abbrev r0_47 : Rect S10x6x20x1 := Rect.unit (s := S10x6x20x1) ![4, 3, 0, 0] S1x1x20x1.size inb_S10x6x20x1_S1x1x20x1_4_3_0_0
abbrev r0_48 : Rect S10x6x20x1 := Rect.unit (s := S10x6x20x1) ![5, 3, 0, 0] S1x1x20x1.size inb_S10x6x20x1_S1x1x20x1_5_3_0_0
abbrev r0_49 : Rect S10x6x20x1 := Rect.unit (s := S10x6x20x1) ![6, 3, 0, 0] S1x1x20x1.size inb_S10x6x20x1_S1x1x20x1_6_3_0_0
abbrev r0_50 : Rect S10x6x20x1 := Rect.unit (s := S10x6x20x1) ![7, 3, 0, 0] S1x1x20x1.size inb_S10x6x20x1_S1x1x20x1_7_3_0_0
abbrev r0_51 : Rect S10x6x20x1 := Rect.unit (s := S10x6x20x1) ![8, 3, 0, 0] S1x1x20x1.size inb_S10x6x20x1_S1x1x20x1_8_3_0_0
abbrev r0_52 : Rect S10x6x20x1 := Rect.unit (s := S10x6x20x1) ![9, 3, 0, 0] S1x1x20x1.size inb_S10x6x20x1_S1x1x20x1_9_3_0_0
abbrev r0_53 : Rect S6x20x256 := Rect.unit (s := S6x20x256) ![3, 0, 0] S1x20x256.size inb_S6x20x256_S1x20x256_3_0_0
abbrev r0_54 : Rect S10x6x20x1 := Rect.unit (s := S10x6x20x1) ![0, 4, 0, 0] S1x1x20x1.size inb_S10x6x20x1_S1x1x20x1_0_4_0_0
abbrev r0_55 : Rect S10x6x20x1 := Rect.unit (s := S10x6x20x1) ![1, 4, 0, 0] S1x1x20x1.size inb_S10x6x20x1_S1x1x20x1_1_4_0_0
abbrev r0_56 : Rect S10x6x20x1 := Rect.unit (s := S10x6x20x1) ![2, 4, 0, 0] S1x1x20x1.size inb_S10x6x20x1_S1x1x20x1_2_4_0_0
abbrev r0_57 : Rect S10x6x20x1 := Rect.unit (s := S10x6x20x1) ![3, 4, 0, 0] S1x1x20x1.size inb_S10x6x20x1_S1x1x20x1_3_4_0_0
abbrev r0_58 : Rect S10x6x20x1 := Rect.unit (s := S10x6x20x1) ![4, 4, 0, 0] S1x1x20x1.size inb_S10x6x20x1_S1x1x20x1_4_4_0_0
abbrev r0_59 : Rect S10x6x20x1 := Rect.unit (s := S10x6x20x1) ![5, 4, 0, 0] S1x1x20x1.size inb_S10x6x20x1_S1x1x20x1_5_4_0_0
abbrev r0_60 : Rect S10x6x20x1 := Rect.unit (s := S10x6x20x1) ![6, 4, 0, 0] S1x1x20x1.size inb_S10x6x20x1_S1x1x20x1_6_4_0_0
abbrev r0_61 : Rect S10x6x20x1 := Rect.unit (s := S10x6x20x1) ![7, 4, 0, 0] S1x1x20x1.size inb_S10x6x20x1_S1x1x20x1_7_4_0_0
abbrev r0_62 : Rect S10x6x20x1 := Rect.unit (s := S10x6x20x1) ![8, 4, 0, 0] S1x1x20x1.size inb_S10x6x20x1_S1x1x20x1_8_4_0_0
abbrev r0_63 : Rect S10x6x20x1 := Rect.unit (s := S10x6x20x1) ![9, 4, 0, 0] S1x1x20x1.size inb_S10x6x20x1_S1x1x20x1_9_4_0_0
abbrev r0_64 : Rect S6x20x256 := Rect.unit (s := S6x20x256) ![4, 0, 0] S1x20x256.size inb_S6x20x256_S1x20x256_4_0_0
abbrev r0_65 : Rect S10x6x20x1 := Rect.unit (s := S10x6x20x1) ![0, 5, 0, 0] S1x1x20x1.size inb_S10x6x20x1_S1x1x20x1_0_5_0_0
abbrev r0_66 : Rect S10x6x20x1 := Rect.unit (s := S10x6x20x1) ![1, 5, 0, 0] S1x1x20x1.size inb_S10x6x20x1_S1x1x20x1_1_5_0_0
abbrev r0_67 : Rect S10x6x20x1 := Rect.unit (s := S10x6x20x1) ![2, 5, 0, 0] S1x1x20x1.size inb_S10x6x20x1_S1x1x20x1_2_5_0_0
abbrev r0_68 : Rect S10x6x20x1 := Rect.unit (s := S10x6x20x1) ![3, 5, 0, 0] S1x1x20x1.size inb_S10x6x20x1_S1x1x20x1_3_5_0_0
abbrev r0_69 : Rect S10x6x20x1 := Rect.unit (s := S10x6x20x1) ![4, 5, 0, 0] S1x1x20x1.size inb_S10x6x20x1_S1x1x20x1_4_5_0_0
abbrev r0_70 : Rect S10x6x20x1 := Rect.unit (s := S10x6x20x1) ![5, 5, 0, 0] S1x1x20x1.size inb_S10x6x20x1_S1x1x20x1_5_5_0_0
abbrev r0_71 : Rect S10x6x20x1 := Rect.unit (s := S10x6x20x1) ![6, 5, 0, 0] S1x1x20x1.size inb_S10x6x20x1_S1x1x20x1_6_5_0_0
abbrev r0_72 : Rect S10x6x20x1 := Rect.unit (s := S10x6x20x1) ![7, 5, 0, 0] S1x1x20x1.size inb_S10x6x20x1_S1x1x20x1_7_5_0_0
abbrev r0_73 : Rect S10x6x20x1 := Rect.unit (s := S10x6x20x1) ![8, 5, 0, 0] S1x1x20x1.size inb_S10x6x20x1_S1x1x20x1_8_5_0_0
abbrev r0_74 : Rect S10x6x20x1 := Rect.unit (s := S10x6x20x1) ![9, 5, 0, 0] S1x1x20x1.size inb_S10x6x20x1_S1x1x20x1_9_5_0_0
abbrev r0_75 : Rect S6x20x256 := Rect.unit (s := S6x20x256) ![5, 0, 0] S1x20x256.size inb_S6x20x256_S1x20x256_5_0_0

/-! ## What the body leaves in each output window's buffer -/

/-- Window 2's staging buffer after the body, from the input windows' blocks: its 6 stores as pieces, last
    first (`View.canon`; the payloads are the skeleton's). -/
def out0_2 (x0 : Vec F S10x6x20x1 .f32) (x1 : Vec F S10x20x256 .f32) : Vec F S6x20x256 .f32 :=
  View.canon [⟨r0_75, k0_pay1 (k0_pay28 (k0_pay27 (View.ld x0 r0_65) (View.ld x1 r0_1) (View.ld x0 r0_66) (View.ld x1 r0_3) (View.ld x0 r0_67) (View.ld x1 r0_5) (View.ld x0 r0_68) (View.ld x1 r0_7)) (View.ld x0 r0_69) (View.ld x1 r0_9) (View.ld x0 r0_70) (View.ld x1 r0_11) (View.ld x0 r0_71) (View.ld x1 r0_13) (View.ld x0 r0_72) (View.ld x1 r0_15)) (View.ld x0 r0_73) (View.ld x1 r0_17) (View.ld x0 r0_74) (View.ld x1 r0_19)⟩,
    ⟨r0_64, k0_pay26 (k0_pay24 (k0_pay22 (View.ld x0 r0_54) (View.ld x1 r0_1) (View.ld x0 r0_55) (View.ld x1 r0_3)) (k0_pay23 (View.ld x0 r0_56)) (View.ld x1 r0_5) (View.ld x0 r0_57) (View.ld x1 r0_7) (View.ld x0 r0_58) (View.ld x1 r0_9) (View.ld x0 r0_59) (View.ld x1 r0_11)) (k0_pay25 (View.ld x0 r0_60)) (View.ld x1 r0_13) (View.ld x0 r0_61) (View.ld x1 r0_15) (View.ld x0 r0_62) (View.ld x1 r0_17) (View.ld x0 r0_63) (View.ld x1 r0_19)⟩,
    ⟨r0_53, k0_pay21 (k0_pay19 (k0_pay17 (k0_pay15 (View.ld x1 r0_1)) (k0_pay16 (View.ld x0 r0_43)) (View.ld x0 r0_44) (View.ld x1 r0_3) (View.ld x0 r0_45) (View.ld x1 r0_5) (View.ld x0 r0_46) (View.ld x1 r0_7)) (k0_pay18 (View.ld x0 r0_47) (View.ld x1 r0_9)) (View.ld x0 r0_48) (View.ld x1 r0_11) (View.ld x0 r0_49) (View.ld x1 r0_13) (View.ld x0 r0_50) (View.ld x1 r0_15)) (k0_pay20 (View.ld x0 r0_51) (View.ld x1 r0_17)) (View.ld x0 r0_52) (View.ld x1 r0_19)⟩,
    ⟨r0_42, k0_pay14 (k0_pay13 (k0_pay12 (View.ld x0 r0_32) (View.ld x1 r0_1) (View.ld x0 r0_33) (View.ld x1 r0_3) (View.ld x0 r0_34) (View.ld x1 r0_5)) (View.ld x0 r0_35) (View.ld x1 r0_7) (View.ld x0 r0_36) (View.ld x1 r0_9) (View.ld x0 r0_37) (View.ld x1 r0_11) (View.ld x0 r0_38) (View.ld x1 r0_13)) (View.ld x0 r0_39) (View.ld x1 r0_15) (View.ld x0 r0_40) (View.ld x1 r0_17) (View.ld x0 r0_41) (View.ld x1 r0_19)⟩,
    ⟨r0_31, k0_pay11 (k0_pay9 (k0_pay7 (k0_pay5 (View.ld x0 r0_21) (View.ld x1 r0_1)) (k0_pay6 (View.ld x0 r0_22)) (View.ld x1 r0_3) (View.ld x0 r0_23) (View.ld x1 r0_5) (View.ld x0 r0_24) (View.ld x1 r0_7) (View.ld x0 r0_25) (View.ld x1 r0_9)) (k0_pay8 (View.ld x0 r0_26)) (View.ld x1 r0_11) (View.ld x0 r0_27) (View.ld x1 r0_13) (View.ld x0 r0_28) (View.ld x1 r0_15) (View.ld x0 r0_29) (View.ld x1 r0_17)) (k0_pay10 (View.ld x0 r0_30)) (View.ld x1 r0_19)⟩,
    ⟨r0_20, k0_pay4 (k0_pay3 (k0_pay2 (View.ld x0 r0_0) (View.ld x1 r0_1) (View.ld x0 r0_2) (View.ld x1 r0_3) (View.ld x0 r0_4) (View.ld x1 r0_5) (View.ld x0 r0_6) (View.ld x1 r0_7)) (View.ld x0 r0_8) (View.ld x1 r0_9) (View.ld x0 r0_10) (View.ld x1 r0_11) (View.ld x0 r0_12) (View.ld x1 r0_13) (View.ld x0 r0_14) (View.ld x1 r0_15)) (View.ld x0 r0_16) (View.ld x1 r0_17) (View.ld x0 r0_18) (View.ld x1 r0_19)⟩]

/-- Its stores tile the buffer (checked by evaluation), so they cover it. -/
theorem cover0_2 (p0 : Vec F S1x20x256 .f32) (p1 : Vec F S1x20x256 .f32) (p2 : Vec F S1x20x256 .f32) (p3 : Vec F S1x20x256 .f32) (p4 : Vec F S1x20x256 .f32) (p5 : Vec F S1x20x256 .f32) (y : S6x20x256.Idx) :
    ∃ pc ∈ ([⟨r0_75, p0⟩, ⟨r0_64, p1⟩, ⟨r0_53, p2⟩, ⟨r0_42, p3⟩, ⟨r0_31, p4⟩, ⟨r0_20, p5⟩] : List (View.Piece (Elt F) S6x20x256 .f32)), y ∈ pc.1.set :=
  View.cover_of_tiled [⟨r0_75, p0⟩, ⟨r0_64, p1⟩, ⟨r0_53, p2⟩, ⟨r0_42, p3⟩, ⟨r0_31, p4⟩, ⟨r0_20, p5⟩] S1x20x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (arg0 : Memref sig .tc .vmem S10x6x20x1 .f32) (harg0 : arg0.IsWhole) (arg1 : Memref sig .tc .vmem S10x20x256 .f32) (harg1 : arg1.IsWhole) (arg2 : Memref sig .tc .vmem S6x20x256 .f32) (harg2 : arg2.IsWhole)
    (x0 : Vec F S10x6x20x1 .f32) (x1 : Vec F S10x20x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0_lut arg0 harg0 arg1 harg1 arg2 harg2) K := by
  simp only [cc0_lut_eq_skeleton]; unfold cc0_lut_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _)

/-! ## The pipeline's proof data -/

/-- The proof data of pipeline 0 on core `c`: the arrays as the region finds them (`V`); after the body at
    point `t` each input's buffer at its block and each output's at `out0_W` of the input blocks; the invariant the
    pipeline's (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Kernel.Gen

end
-- ==== Proof.TripK.lean ====
/-
One trip of the loop of the `adc` body, run at a symbolic trip number: the sums it stages in the scratch buffer and the tiles
it stores into the output block, as lists of pieces.
-/
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the run. -/
local notation "𝕄G" => MT nD τ sig Unit (Elt F) ℕ (UR sig nD τ) ℕ

/-- One trip's resources: what the region reads (arg1, arg2, arg3) at its contents, what it writes
   (arg4, arg5) at any. -/
abbrev Trip_k1_t1 (c : Dev nD) (arg1 : Memref sig .tc .vmem S6x20x256 .f32) (arg2 : Memref sig .tc .vmem S3x256x256 .bf16) (arg3 : Memref sig .tc .vmem S20x32x1024 .i8) (arg4 : Memref sig .tc .vmem S6x32768 .bf16) (arg5 : Memref sig .tc .vmem S6x16x128 .i32) (X_arg1 : BufTy.Contents (Elt F) arg1.view.ty) (X_arg2 : BufTy.Contents (Elt F) arg2.view.ty) (X_arg3 : BufTy.Contents (Elt F) arg3.view.ty) (f_arg4 : BufTy.Contents (Elt F) arg4.view.ty) (f_arg5 : BufTy.Contents (Elt F) arg5.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} f_arg4) ∗ (arg5.view.loc (c : Thread nD τ) ↦[arg5.view.set]{fullShare} f_arg5))

/-- One trip of `k1_t1_loop` at a symbolic `k`, run by `sl_exec`. The pieces it writes into `arg4` and `arg5` are the ones the
    run finds, as functions of the contents the trip finds in the two buffers (it loads some of them back). It is cited and never
    unfolded, hence `@[irreducible]`. -/
@[irreducible] def trip_k1_t1 (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) :
    Σ' (L_arg4 : (BufTy.Contents (Elt F) arg4.view.ty → BufTy.Contents (Elt F) arg5.view.ty → List (View.Piece (Elt F) S6x32768 .bf16))) , { L_arg5 : (BufTy.Contents (Elt F) arg4.view.ty → BufTy.Contents (Elt F) arg5.view.ty → List (View.Piece (Elt F) S6x16x128 .i32)) // ∀ (E : Set ℕ) (f_arg4 : BufTy.Contents (Elt F) arg4.view.ty) (f_arg5 : BufTy.Contents (Elt F) arg5.view.ty),
      Trip_k1_t1 (F := F) c arg1 arg2 arg3 arg4 arg5 X_arg1 X_arg2 X_arg3 f_arg4 f_arg5
      ⊢ wp frame (wpE (defs₀ (F := F)) 𝒱 (c : Thread nD τ) bd) E (k1_t1_body (F := F) i arg1 harg1 arg2 harg2 arg3 harg3 arg4 harg4 arg5 harg5 v0 k PUnit.unit)
          (fun _ => Trip_k1_t1 (F := F) c arg1 arg2 arg3 arg4 arg5 X_arg1 X_arg2 X_arg3 (arg4.view.writes (Elt F) f_arg4 (L_arg4 f_arg4 f_arg5)) (arg5.view.writes (Elt F) f_arg5 (L_arg5 f_arg4 f_arg5))) } := by
  have hk : k.val < 8 := Nat.lt_of_lt_of_le k.isLt k1_t1_abs.2.1
  refine ⟨?_, ?_, fun E f_arg4 f_arg5 => ?run⟩
  case run =>
    unfold k1_t1_body
    iintro ⟨HR_arg1, HR_arg2, HR_arg3, HW_arg4, HW_arg5⟩
    sl_exec_parts
    sl_step
    sl_close

end Cert.Kernel.Gen

end
-- ==== Proof.LoopK.lean ====
/-
The loop of the `adc` body (Kernel): eight trips, each storing 32 tiles of the output block.

One trip (`trip_k1_t1`, run in TripK) stages its sums in the scratch buffer, loads them back and stores the tiles.
The stores into the scratch are strided (every second row of words), so that the loads are covered is shown here
(`stage_cover`); it follows that the tiles a trip stores do not depend on what the buffers held before (`trip_pieces`), and
the loop's invariant says that before trip `k` the output buffer holds the tiles of the trips before `k`.
-/
module

public import proofs.«01_k».proof.Proof.TripK
public import Idealize.ShloMosaic.Lib.Exec
public import Idealize.ShloMosaic.Lib.Tactic
public import Idealize.ShloMosaic.Lib.HeldBySlice
public import Idealize.ShloMosaic.Lib.Pipeline.Kit

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The resource algebra of the run. -/
local notation "𝕄G" => MT nD τ sig Unit (Elt F) ℕ (UR sig nD τ) ℕ

/-- The certificate that two interleaved pieces of the scratch (list positions `i₀` and `i₁`) cover `n + 1` pairs of rows:
    row by row, alternately in the one and in the other. -/
def rowsCov (i₀ i₁ : ℕ) : ℕ → LoadRect.Cov
  | 0 => .split 1 1 (.leaf i₀) (.leaf i₁)
  | n + 1 => .split 1 1 (.leaf i₀) (.split 1 1 (.leaf i₁) (rowsCov i₀ i₁ n))

section Stage

variable (arg1 : Memref sig .tc .vmem S6x20x256 .f32) (arg3 : Memref sig .tc .vmem S20x32x1024 .i8)
  (X_arg1 : BufTy.Contents (Elt F) arg1.view.ty) (X_arg3 : BufTy.Contents (Elt F) arg3.view.ty) (k : Fin k1_t1_loop.trips)

/-- The stores of a trip into the scratch cover the plane of query 0. -/
theorem stage_cover_0 (j : (Rect.unit (s := S6x16x128) ![0, 0, 0] S1x16x128.size inb_S6x16x128_S1x16x128_0_0_0).toLoadRect.shape.Idx) :
    ∃ p ∈ trip_k1_t1.sl.HW_arg5_12 (F := F) arg1 arg3 X_arg1 X_arg3 k,
      (Rect.unit (s := S6x16x128) ![0, 0, 0] S1x16x128.size inb_S6x16x128_S1x16x128_0_0_0).toLoadRect.idx j ∈ p.1.set :=
  LoadRect.cover_of_covChk _ _ (rowsCov 11 10 7) (by sl_kernel_rfl) j

/-- The stores of a trip into the scratch cover the plane of query 1. -/
theorem stage_cover_1 (j : (Rect.unit (s := S6x16x128) ![1, 0, 0] S1x16x128.size inb_S6x16x128_S1x16x128_1_0_0).toLoadRect.shape.Idx) :
    ∃ p ∈ trip_k1_t1.sl.HW_arg5_12 (F := F) arg1 arg3 X_arg1 X_arg3 k,
      (Rect.unit (s := S6x16x128) ![1, 0, 0] S1x16x128.size inb_S6x16x128_S1x16x128_1_0_0).toLoadRect.idx j ∈ p.1.set :=
  LoadRect.cover_of_covChk _ _ (rowsCov 9 8 7) (by sl_kernel_rfl) j

/-- The stores of a trip into the scratch cover the plane of query 2. -/
theorem stage_cover_2 (j : (Rect.unit (s := S6x16x128) ![2, 0, 0] S1x16x128.size inb_S6x16x128_S1x16x128_2_0_0).toLoadRect.shape.Idx) :
    ∃ p ∈ trip_k1_t1.sl.HW_arg5_12 (F := F) arg1 arg3 X_arg1 X_arg3 k,
      (Rect.unit (s := S6x16x128) ![2, 0, 0] S1x16x128.size inb_S6x16x128_S1x16x128_2_0_0).toLoadRect.idx j ∈ p.1.set :=
  LoadRect.cover_of_covChk _ _ (rowsCov 7 6 7) (by sl_kernel_rfl) j

/-- The stores of a trip into the scratch cover the plane of query 3. -/
theorem stage_cover_3 (j : (Rect.unit (s := S6x16x128) ![3, 0, 0] S1x16x128.size inb_S6x16x128_S1x16x128_3_0_0).toLoadRect.shape.Idx) :
    ∃ p ∈ trip_k1_t1.sl.HW_arg5_12 (F := F) arg1 arg3 X_arg1 X_arg3 k,
      (Rect.unit (s := S6x16x128) ![3, 0, 0] S1x16x128.size inb_S6x16x128_S1x16x128_3_0_0).toLoadRect.idx j ∈ p.1.set :=
  LoadRect.cover_of_covChk _ _ (rowsCov 5 4 7) (by sl_kernel_rfl) j

/-- The stores of a trip into the scratch cover the plane of query 4. -/
theorem stage_cover_4 (j : (Rect.unit (s := S6x16x128) ![4, 0, 0] S1x16x128.size inb_S6x16x128_S1x16x128_4_0_0).toLoadRect.shape.Idx) :
    ∃ p ∈ trip_k1_t1.sl.HW_arg5_12 (F := F) arg1 arg3 X_arg1 X_arg3 k,
      (Rect.unit (s := S6x16x128) ![4, 0, 0] S1x16x128.size inb_S6x16x128_S1x16x128_4_0_0).toLoadRect.idx j ∈ p.1.set :=
  LoadRect.cover_of_covChk _ _ (rowsCov 3 2 7) (by sl_kernel_rfl) j

/-- The stores of a trip into the scratch cover the plane of query 5. -/
theorem stage_cover_5 (j : (Rect.unit (s := S6x16x128) ![5, 0, 0] S1x16x128.size inb_S6x16x128_S1x16x128_5_0_0).toLoadRect.shape.Idx) :
    ∃ p ∈ trip_k1_t1.sl.HW_arg5_12 (F := F) arg1 arg3 X_arg1 X_arg3 k,
      (Rect.unit (s := S6x16x128) ![5, 0, 0] S1x16x128.size inb_S6x16x128_S1x16x128_5_0_0).toLoadRect.idx j ∈ p.1.set :=
  LoadRect.cover_of_covChk _ _ (rowsCov 1 0 7) (by sl_kernel_rfl) j

end Stage

/-- The tiles a trip stores into the output block (last first), taken over arbitrary contents of the two buffers it writes. -/
@[irreducible] def tripPieces (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) : List (View.Piece (Elt F) S6x32768 .bf16) :=
  (trip_k1_t1 (F := F) 𝒱 c bd i arg1 harg1 arg2 harg2 arg3 harg3 arg4 harg4 arg5 harg5 v0 X_arg1 X_arg2 X_arg3 k).1 arg4.view.junk arg5.view.junk

/-- They are the same over any contents. -/
theorem trip_pieces (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) (f4 : BufTy.Contents (Elt F) arg4.view.ty) (f5 : BufTy.Contents (Elt F) arg5.view.ty) :
    (trip_k1_t1 (F := F) 𝒱 c bd i arg1 harg1 arg2 harg2 arg3 harg3 arg4 harg4 arg5 harg5 v0 X_arg1 X_arg2 X_arg3 k).1 f4 f5 = tripPieces 𝒱 c bd i arg1 harg1 arg2 harg2 arg3 harg3 arg4 harg4 arg5 harg5 v0 X_arg1 X_arg2 X_arg3 k := by
  unfold tripPieces trip_k1_t1
  dsimp only
  simp only [trip_k1_t1.sl.r_864, trip_k1_t1.sl.v6109, trip_k1_t1.sl.v6065, trip_k1_t1.sl.v6105, trip_k1_t1.sl.HW_arg4_22, trip_k1_t1.sl.r_865, trip_k1_t1.sl.r_872, trip_k1_t1.sl.r_878, trip_k1_t1.sl.r_863, trip_k1_t1.sl.v6069, trip_k1_t1.sl.v6061, trip_k1_t1.sl.v6113, trip_k1_t1.sl.v6129, trip_k1_t1.sl.r_877, trip_k1_t1.sl.r_867, trip_k1_t1.sl.v6081, trip_k1_t1.sl.r_876, trip_k1_t1.sl.r_871, trip_k1_t1.sl.v6077, trip_k1_t1.sl.v6093, trip_k1_t1.sl.r_874, trip_k1_t1.sl.v6033, trip_k1_t1.sl.v6057, trip_k1_t1.sl.v6073, trip_k1_t1.sl.HW_arg4_14, trip_k1_t1.sl.r_869, trip_k1_t1.sl.v6049, trip_k1_t1.sl.r_870, trip_k1_t1.sl.v6121, trip_k1_t1.sl.v6133, trip_k1_t1.sl.v6085, trip_k1_t1.sl.r_868, trip_k1_t1.sl.v6117, trip_k1_t1.sl.r_875, trip_k1_t1.sl.r_873, trip_k1_t1.sl.v6097, trip_k1_t1.sl.v6125, trip_k1_t1.sl.v6041, trip_k1_t1.sl.v6037, trip_k1_t1.sl.v6089, trip_k1_t1.sl.v6101, trip_k1_t1.sl.r_866, trip_k1_t1.sl.r_862, trip_k1_t1.sl.v6045, trip_k1_t1.sl.HW_arg4_5, trip_k1_t1.sl.v6053,
    View.readAt_writes_of_cover _ _ _ _ (stage_cover_0 arg1 arg3 X_arg1 X_arg3 k), View.readAt_writes_of_cover _ _ _ _ (stage_cover_1 arg1 arg3 X_arg1 X_arg3 k), View.readAt_writes_of_cover _ _ _ _ (stage_cover_2 arg1 arg3 X_arg1 X_arg3 k), View.readAt_writes_of_cover _ _ _ _ (stage_cover_3 arg1 arg3 X_arg1 X_arg3 k), View.readAt_writes_of_cover _ _ _ _ (stage_cover_4 arg1 arg3 X_arg1 X_arg3 k), View.readAt_writes_of_cover _ _ _ _ (stage_cover_5 arg1 arg3 X_arg1 X_arg3 k)]

/-- The tiles of the trips before `k`, last first. -/
def piecesBefore (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) : ℕ → List (View.Piece (Elt F) S6x32768 .bf16)
  | 0 => []
  | k + 1 => (if h : k < k1_t1_loop.trips then tripPieces 𝒱 c bd i arg1 harg1 arg2 harg2 arg3 harg3 arg4 harg4 arg5 harg5 v0 X_arg1 X_arg2 X_arg3 ⟨k, h⟩ else []) ++ piecesBefore 𝒱 c bd i arg1 harg1 arg2 harg2 arg3 harg3 arg4 harg4 arg5 harg5 v0 X_arg1 X_arg2 X_arg3 k

/-- One more trip puts its tiles in front. -/
theorem piecesBefore_succ (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) :
    piecesBefore (F := F) 𝒱 c bd i arg1 harg1 arg2 harg2 arg3 harg3 arg4 harg4 arg5 harg5 v0 X_arg1 X_arg2 X_arg3 (k.val + 1) = tripPieces 𝒱 c bd i arg1 harg1 arg2 harg2 arg3 harg3 arg4 harg4 arg5 harg5 v0 X_arg1 X_arg2 X_arg3 k ++ piecesBefore 𝒱 c bd i arg1 harg1 arg2 harg2 arg3 harg3 arg4 harg4 arg5 harg5 v0 X_arg1 X_arg2 X_arg3 k.val := by
  rw [piecesBefore, dif_pos k.isLt]

/-- The invariant before trip `k`: the operands as they were, the tiles of the trips before `k` in the output block, and
    anything in the scratch. -/
abbrev inv_k1_t1 (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (G_arg4 : BufTy.Contents (Elt F) arg4.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg4.view.loc (c : Thread nD τ) ↦[arg4.view.set]{fullShare} f) ∗ ⌜f = arg4.view.writes (Elt F) G_arg4 (piecesBefore (F := F) 𝒱 c bd i arg1 harg1 arg2 harg2 arg3 harg3 arg4 harg4 arg5 harg5 v0 X_arg1 X_arg2 X_arg3 k)⌝) ∗ (∃ f, (arg5.view.loc (c : Thread nD τ) ↦[arg5.view.set]{fullShare} f)))

set_option warn.classDefReducibility false in
/-- The loop by its invariant: each trip is `trip_k1_t1`, its tiles those of `trip_pieces`. -/
@[sl_loop] def loopInv_k1_t1 (𝒱 : Variants) (c : Dev nD) (bd : Option 𝒱.V) (E : Set ℕ) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (G_arg4 : BufTy.Contents (Elt F) arg4.view.ty) :
    LoopInvTy_k1_t1 (F := F) Unit ℕ (UR sig nD τ) ℕ 𝒱 c bd E i arg1 harg1 arg2 harg2 arg3 harg3 arg4 harg4 arg5 harg5 v0 where
  inv := inv_k1_t1 (F := F) 𝒱 c bd i arg1 harg1 arg2 harg2 arg3 harg3 arg4 harg4 arg5 harg5 v0 X_arg1 X_arg2 X_arg3 G_arg4
  step k acc := by
    iintro ⟨HR_arg1, HR_arg2, HR_arg3, ⟨%f_arg4, HW_arg4, %h_arg4⟩, ⟨%f_arg5, HW_arg5⟩⟩
    iapply (wp_wand_r Idealize.ShloMosaic.frame (wpE (defs₀ (F := F)) 𝒱 (c : Thread nD τ) bd) E)
    isplitl [HR_arg1 HR_arg2 HR_arg3 HW_arg4 HW_arg5]
    · iapply ((trip_k1_t1 (F := F) 𝒱 c bd i arg1 harg1 arg2 harg2 arg3 harg3 arg4 harg4 arg5 harg5 v0 X_arg1 X_arg2 X_arg3 k).2.2 E f_arg4 f_arg5)
      isplitl [HR_arg1]; · iexact HR_arg1
      isplitl [HR_arg2]; · iexact HR_arg2
      isplitl [HR_arg3]; · iexact HR_arg3
      isplitl [HW_arg4]; · iexact HW_arg4
      iexact HW_arg5
    · iintro %_ ⟨HR_arg1, HR_arg2, HR_arg3, HW_arg4, HW_arg5⟩
      isplitl [HR_arg1]; · iexact HR_arg1
      isplitl [HR_arg2]; · iexact HR_arg2
      isplitl [HR_arg3]; · iexact HR_arg3
      rw [piecesBefore_succ]
      isplitl [HW_arg4]
      · iexists _; isplitl [HW_arg4]; · iexact HW_arg4
        ipureintro; rw [trip_pieces, h_arg4, ← View.writes_append]
      iexists _; iexact HW_arg5

end Cert.Kernel.Gen

end
-- ==== Proof.AdcK.lean ====
/-
The region of the `adc` call: the distances of the codes to the queries.

`kernelRun1_A` runs the body through its loop (LoopK), `out1_A_3` is what it leaves in the output's staging buffer, and
`dat1`, `body_obligation1` are what the pipeline's proof asks of the call.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.LoopK
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_adc` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S6x32768 .bf16 := (Memref.whole cc1_stg3_0 : Memref sig .tc .vmem S6x32768 .bf16).view
/-- Each window's current staging memref at point `t`, spelled as the pipeline passes it (`bodyAt1`), and its wholeness. -/
abbrev ms1_0 (t : Fin cfg1.N) : Memref sig .tc .vmem S6x20x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S20x32x1024 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x32768 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S6x16x128 .i32 := Memref.whole cc1_scratch0

/-- The pipeline's invariant with the scratch operands as memrefs owned at some contents (`Gen.scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole)
    (x0 : Vec F S6x20x256 .f32) (x1 : Vec F S3x256x256 .bf16) (x2 : Vec F S20x32x1024 .i8) :
    { L3 : List (View.Piece (Elt F) S6x32768 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc1_adc i arg1 harg1 arg2 harg2 arg3 harg3 arg4 harg4 arg5 harg5) K } := by
  refine ⟨?_, fun E K => ?run⟩
  case run =>
    simp only [cc1_adc_eq_skeleton]; unfold cc1_adc_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _, _; isplitr; swap; · iexact HS0
    ipureintro; rfl

/-- The run's pieces for output 3 tile its block (256 stores of `S6x128`, checked by the kernel's evaluation: `Piece.tiledL`, linear in the pieces, through a loop's `@[irreducible]` trip theorem too), so they cover it. -/
theorem cover1_A_3 (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole)
    (x0 : Vec F S6x20x256 .f32) (x1 : Vec F S3x256x256 .bf16) (x2 : Vec F S20x32x1024 .i8) (y : S6x32768.Idx) :
    ∃ pc ∈ (kernelRun1_A c i arg1 harg1 arg2 harg2 arg3 harg3 arg4 harg4 arg5 harg5 x0 x1 x2).1, y ∈ pc.1.set :=
  View.cover_of_tiledL (kernelRun1_A c i arg1 harg1 arg2 harg2 arg3 harg3 arg4 harg4 arg5 harg5 x0 x1 x2).1 S6x128.size (by sl_kernel_rfl) y

/-- What the run leaves in output 3's staging buffer: its pieces read back over junk. -/
def out1_A_3 (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x128 .i32) (harg5 : arg5.IsWhole)
    (x0 : Vec F S6x20x256 .f32) (x1 : Vec F S3x256x256 .bf16) (x2 : Vec F S20x32x1024 .i8) : Vec F S6x32768 .bf16 :=
  VO1_3.read (Elt F) (VO1_3.writes (Elt F) VO1_3.junk (kernelRun1_A c i arg1 harg1 arg2 harg2 arg3 harg3 arg4 harg4 arg5 harg5 x0 x1 x2).1)

/-! ## What the outputs hold after each point -/

/-- What the outputs' staging buffers hold after the body at point `t`: the run's contents at
    the point's memrefs and input blocks. -/
def outsAt1 (c : Dev nD) (t : Fin cfg1.N) : Vec F S6x32768 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the pipeline's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HS0⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HR0 HR1 HR2 HS0 Hg]
  · isplitl [HR0 HR1 HR2 HS0]
    · isplitl [HR0]
      · iexact HR0
      isplitl [HR1]
      · iexact HR1
      isplitl [HR2]
      · iexact HR2
      iexact HS0
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Kernel.Gen

end
-- ==== Proof.RunK.lean ====
/-
The run of the whole program (Kernel): host operations, the `lut` call, host operations, the `adc` call.

`W0` … `W22` are the buffers' contents at the boundaries between these items. `run_all` says that every execution ends
with every unscoped buffer at `W22`; `frame`, that the arguments end as they began, is read off it.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import proofs.«01_k».proof.Proof.LutK
public import proofs.«01_k».proof.Proof.AdcK
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! # The run: @main's segments from the launch to the return (`θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7, main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v8]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v9, main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v10]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_1]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v11]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v12, main_v13, main_v14, main_v15, main_c_2]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v16]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v17, main_c_3]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps1_9` allocates a buffer. -/
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v18]
theorem hostOps1_9_writes : (hostOps1_9 : List (HloOp τ sig (Elt F))).Forall fun op => op.writes ⊆ (hostOps1_9_W.map (Proc.devRef (τ := τ) .tc)).toFinset :=
  StableHlo.forall_writes_sub_of_map rfl
/-- `hostOps1_9` writes none of the argument arrays (checked: each argument against each reference it writes). -/
theorem hostOps1_9_args : ∀ a ∈ argRefs, a ∉ hostOps1_9_W := ListAll.forall_mem_of_all_decide (by decide +kernel)

/-- No operation of `hostOps1_10` allocates a buffer. -/
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_c_4, main_v19, main_v20, main_v21, main_v22, main_v23, main_v24, main_v25, main_c_5]
theorem hostOps1_10_writes : (hostOps1_10 : List (HloOp τ sig (Elt F))).Forall fun op => op.writes ⊆ (hostOps1_10_W.map (Proc.devRef (τ := τ) .tc)).toFinset :=
  StableHlo.forall_writes_sub_of_map rfl
/-- `hostOps1_10` writes none of the argument arrays (checked: each argument against each reference it writes). -/
theorem hostOps1_10_args : ∀ a ∈ argRefs, a ∉ hostOps1_10_W := ListAll.forall_mem_of_all_decide (by decide +kernel)

/-- No operation of `hostOps1_11` allocates a buffer. -/
theorem hostOps1_11_fresh : (hostOps1_11 : List (HloOp τ sig (Elt F))).Forall fun op => op.fresh = ∅ := by
  simp only [List.Forall]; repeat' constructor
/-- The reference each operation of `hostOps1_11` writes, in order. -/
abbrev hostOps1_11_W : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v26]
theorem hostOps1_11_writes : (hostOps1_11 : List (HloOp τ sig (Elt F))).Forall fun op => op.writes ⊆ (hostOps1_11_W.map (Proc.devRef (τ := τ) .tc)).toFinset :=
  StableHlo.forall_writes_sub_of_map rfl
/-- `hostOps1_11` writes none of the argument arrays (checked: each argument against each reference it writes). -/
theorem hostOps1_11_args : ∀ a ∈ argRefs, a ∉ hostOps1_11_W := ListAll.forall_mem_of_all_decide (by decide +kernel)

/-- No operation of `hostOps1_12` allocates a buffer. -/
theorem hostOps1_12_fresh : (hostOps1_12 : List (HloOp τ sig (Elt F))).Forall fun op => op.fresh = ∅ := by
  simp only [List.Forall]; repeat' constructor
/-- The reference each operation of `hostOps1_12` writes, in order. -/
abbrev hostOps1_12_W : List (Ref sig .tc) := [main_v27, main_c_6]
theorem hostOps1_12_writes : (hostOps1_12 : List (HloOp τ sig (Elt F))).Forall fun op => op.writes ⊆ (hostOps1_12_W.map (Proc.devRef (τ := τ) .tc)).toFinset :=
  StableHlo.forall_writes_sub_of_map rfl
/-- `hostOps1_12` writes none of the argument arrays (checked: each argument against each reference it writes). -/
theorem hostOps1_12_args : ∀ a ∈ argRefs, a ∉ hostOps1_12_W := ListAll.forall_mem_of_all_decide (by decide +kernel)

/-- No operation of `hostOps1_13` allocates a buffer. -/
theorem hostOps1_13_fresh : (hostOps1_13 : List (HloOp τ sig (Elt F))).Forall fun op => op.fresh = ∅ := by
  simp only [List.Forall]; repeat' constructor
/-- The reference each operation of `hostOps1_13` writes, in order. -/
abbrev hostOps1_13_W : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v28]
theorem hostOps1_13_writes : (hostOps1_13 : List (HloOp τ sig (Elt F))).Forall fun op => op.writes ⊆ (hostOps1_13_W.map (Proc.devRef (τ := τ) .tc)).toFinset :=
  StableHlo.forall_writes_sub_of_map rfl
/-- `hostOps1_13` writes none of the argument arrays (checked: each argument against each reference it writes). -/
theorem hostOps1_13_args : ∀ a ∈ argRefs, a ∉ hostOps1_13_W := ListAll.forall_mem_of_all_decide (by decide +kernel)

/-- No operation of `hostOps1_14` allocates a buffer. -/
theorem hostOps1_14_fresh : (hostOps1_14 : List (HloOp τ sig (Elt F))).Forall fun op => op.fresh = ∅ := by
  simp only [List.Forall]; repeat' constructor
/-- The reference each operation of `hostOps1_14` writes, in order. -/
abbrev hostOps1_14_W : List (Ref sig .tc) := [main_c_7, main_v29, main_v30, main_v31, main_v32, main_v33, main_v34, main_v35, main_c_8]
theorem hostOps1_14_writes : (hostOps1_14 : List (HloOp τ sig (Elt F))).Forall fun op => op.writes ⊆ (hostOps1_14_W.map (Proc.devRef (τ := τ) .tc)).toFinset :=
  StableHlo.forall_writes_sub_of_map rfl
/-- `hostOps1_14` writes none of the argument arrays (checked: each argument against each reference it writes). -/
theorem hostOps1_14_args : ∀ a ∈ argRefs, a ∉ hostOps1_14_W := ListAll.forall_mem_of_all_decide (by decide +kernel)

/-- No operation of `hostOps1_15` allocates a buffer. -/
theorem hostOps1_15_fresh : (hostOps1_15 : List (HloOp τ sig (Elt F))).Forall fun op => op.fresh = ∅ := by
  simp only [List.Forall]; repeat' constructor
/-- The reference each operation of `hostOps1_15` writes, in order. -/
abbrev hostOps1_15_W : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v36]
theorem hostOps1_15_writes : (hostOps1_15 : List (HloOp τ sig (Elt F))).Forall fun op => op.writes ⊆ (hostOps1_15_W.map (Proc.devRef (τ := τ) .tc)).toFinset :=
  StableHlo.forall_writes_sub_of_map rfl
/-- `hostOps1_15` writes none of the argument arrays (checked: each argument against each reference it writes). -/
theorem hostOps1_15_args : ∀ a ∈ argRefs, a ∉ hostOps1_15_W := ListAll.forall_mem_of_all_decide (by decide +kernel)

/-- No operation of `hostOps1_16` allocates a buffer. -/
theorem hostOps1_16_fresh : (hostOps1_16 : List (HloOp τ sig (Elt F))).Forall fun op => op.fresh = ∅ := by
  simp only [List.Forall]; repeat' constructor
/-- The reference each operation of `hostOps1_16` writes, in order. -/
abbrev hostOps1_16_W : List (Ref sig .tc) := [main_v37, main_c_9]
theorem hostOps1_16_writes : (hostOps1_16 : List (HloOp τ sig (Elt F))).Forall fun op => op.writes ⊆ (hostOps1_16_W.map (Proc.devRef (τ := τ) .tc)).toFinset :=
  StableHlo.forall_writes_sub_of_map rfl
/-- `hostOps1_16` writes none of the argument arrays (checked: each argument against each reference it writes). -/
theorem hostOps1_16_args : ∀ a ∈ argRefs, a ∉ hostOps1_16_W := ListAll.forall_mem_of_all_decide (by decide +kernel)

/-- No operation of `hostOps1_17` allocates a buffer. -/
theorem hostOps1_17_fresh : (hostOps1_17 : List (HloOp τ sig (Elt F))).Forall fun op => op.fresh = ∅ := by
  simp only [List.Forall]; repeat' constructor
/-- The reference each operation of `hostOps1_17` writes, in order. -/
abbrev hostOps1_17_W : List (Ref sig .tc) := [main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v38]
theorem hostOps1_17_writes : (hostOps1_17 : List (HloOp τ sig (Elt F))).Forall fun op => op.writes ⊆ (hostOps1_17_W.map (Proc.devRef (τ := τ) .tc)).toFinset :=
  StableHlo.forall_writes_sub_of_map rfl
/-- `hostOps1_17` writes none of the argument arrays (checked: each argument against each reference it writes). -/
theorem hostOps1_17_args : ∀ a ∈ argRefs, a ∉ hostOps1_17_W := ListAll.forall_mem_of_all_decide (by decide +kernel)

/-- No operation of `hostOps1_18` allocates a buffer. -/
theorem hostOps1_18_fresh : (hostOps1_18 : List (HloOp τ sig (Elt F))).Forall fun op => op.fresh = ∅ := by
  simp only [List.Forall]; repeat' constructor
/-- The reference each operation of `hostOps1_18` writes, in order. -/
abbrev hostOps1_18_W : List (Ref sig .tc) := [main_c_10, main_v39, main_v40, main_v41, main_v42, main_v43, main_v44, main_v45, main_v46, main_v47, main_v48, main_v49, main_v50, main_v51]
theorem hostOps1_18_writes : (hostOps1_18 : List (HloOp τ sig (Elt F))).Forall fun op => op.writes ⊆ (hostOps1_18_W.map (Proc.devRef (τ := τ) .tc)).toFinset :=
  StableHlo.forall_writes_sub_of_map rfl
/-- `hostOps1_18` writes none of the argument arrays (checked: each argument against each reference it writes). -/
theorem hostOps1_18_args : ∀ a ∈ argRefs, a ∉ hostOps1_18_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- After `hostOps1_5`. -/
abbrev W8 : Dev nD → Valuation τ sig (Elt F) := fun c => StableHlo.after hostOps1_5 (W7 m ρ c)
/-- A reference `hostOps1_5` does not write keeps its contents across it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- After `hostOps1_6`. -/
abbrev W9 : Dev nD → Valuation τ sig (Elt F) := fun c => StableHlo.after hostOps1_6 (W8 m ρ c)
/-- A reference `hostOps1_6` does not write keeps its contents across it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- After `hostOps1_7`. -/
abbrev W10 : Dev nD → Valuation τ sig (Elt F) := fun c => StableHlo.after hostOps1_7 (W9 m ρ c)
/-- A reference `hostOps1_7` does not write keeps its contents across it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- After `hostOps1_8`. -/
abbrev W11 : Dev nD → Valuation τ sig (Elt F) := fun c => StableHlo.after hostOps1_8 (W10 m ρ c)
/-- A reference `hostOps1_8` does not write keeps its contents across it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- After `hostOps1_9`. -/
abbrev W12 : Dev nD → Valuation τ sig (Elt F) := fun c => StableHlo.after hostOps1_9 (W11 m ρ c)
/-- A reference `hostOps1_9` does not write keeps its contents across it. -/
theorem W12_of (c : Dev nD) (r : Ref sig .tc) (h : r ∉ hostOps1_9_W) : W12 m ρ c (Proc.devRef .tc r) = W11 m ρ c (Proc.devRef .tc r) :=
  StableHlo.after_of_writes_sub hostOps1_9 _ hostOps1_9_writes h
theorem W12_args (c : Dev nD) : ∀ a ∈ argRefs, W12 m ρ c (Proc.devRef .tc a) = m ((c : Thread nD τ).loc a) :=
  fun a ha => (W12_of m ρ c a (hostOps1_9_args a ha)).trans (W11_args m ρ c a ha)
/-- After `hostOps1_10`. -/
abbrev W13 : Dev nD → Valuation τ sig (Elt F) := fun c => StableHlo.after hostOps1_10 (W12 m ρ c)
/-- A reference `hostOps1_10` does not write keeps its contents across it. -/
theorem W13_of (c : Dev nD) (r : Ref sig .tc) (h : r ∉ hostOps1_10_W) : W13 m ρ c (Proc.devRef .tc r) = W12 m ρ c (Proc.devRef .tc r) :=
  StableHlo.after_of_writes_sub hostOps1_10 _ hostOps1_10_writes h
theorem W13_args (c : Dev nD) : ∀ a ∈ argRefs, W13 m ρ c (Proc.devRef .tc a) = m ((c : Thread nD τ).loc a) :=
  fun a ha => (W13_of m ρ c a (hostOps1_10_args a ha)).trans (W12_args m ρ c a ha)
/-- After `hostOps1_11`. -/
abbrev W14 : Dev nD → Valuation τ sig (Elt F) := fun c => StableHlo.after hostOps1_11 (W13 m ρ c)
/-- A reference `hostOps1_11` does not write keeps its contents across it. -/
theorem W14_of (c : Dev nD) (r : Ref sig .tc) (h : r ∉ hostOps1_11_W) : W14 m ρ c (Proc.devRef .tc r) = W13 m ρ c (Proc.devRef .tc r) :=
  StableHlo.after_of_writes_sub hostOps1_11 _ hostOps1_11_writes h
theorem W14_args (c : Dev nD) : ∀ a ∈ argRefs, W14 m ρ c (Proc.devRef .tc a) = m ((c : Thread nD τ).loc a) :=
  fun a ha => (W14_of m ρ c a (hostOps1_11_args a ha)).trans (W13_args m ρ c a ha)
/-- After `hostOps1_12`. -/
abbrev W15 : Dev nD → Valuation τ sig (Elt F) := fun c => StableHlo.after hostOps1_12 (W14 m ρ c)
/-- A reference `hostOps1_12` does not write keeps its contents across it. -/
theorem W15_of (c : Dev nD) (r : Ref sig .tc) (h : r ∉ hostOps1_12_W) : W15 m ρ c (Proc.devRef .tc r) = W14 m ρ c (Proc.devRef .tc r) :=
  StableHlo.after_of_writes_sub hostOps1_12 _ hostOps1_12_writes h
theorem W15_args (c : Dev nD) : ∀ a ∈ argRefs, W15 m ρ c (Proc.devRef .tc a) = m ((c : Thread nD τ).loc a) :=
  fun a ha => (W15_of m ρ c a (hostOps1_12_args a ha)).trans (W14_args m ρ c a ha)
/-- After `hostOps1_13`. -/
abbrev W16 : Dev nD → Valuation τ sig (Elt F) := fun c => StableHlo.after hostOps1_13 (W15 m ρ c)
/-- A reference `hostOps1_13` does not write keeps its contents across it. -/
theorem W16_of (c : Dev nD) (r : Ref sig .tc) (h : r ∉ hostOps1_13_W) : W16 m ρ c (Proc.devRef .tc r) = W15 m ρ c (Proc.devRef .tc r) :=
  StableHlo.after_of_writes_sub hostOps1_13 _ hostOps1_13_writes h
theorem W16_args (c : Dev nD) : ∀ a ∈ argRefs, W16 m ρ c (Proc.devRef .tc a) = m ((c : Thread nD τ).loc a) :=
  fun a ha => (W16_of m ρ c a (hostOps1_13_args a ha)).trans (W15_args m ρ c a ha)
/-- After `hostOps1_14`. -/
abbrev W17 : Dev nD → Valuation τ sig (Elt F) := fun c => StableHlo.after hostOps1_14 (W16 m ρ c)
/-- A reference `hostOps1_14` does not write keeps its contents across it. -/
theorem W17_of (c : Dev nD) (r : Ref sig .tc) (h : r ∉ hostOps1_14_W) : W17 m ρ c (Proc.devRef .tc r) = W16 m ρ c (Proc.devRef .tc r) :=
  StableHlo.after_of_writes_sub hostOps1_14 _ hostOps1_14_writes h
theorem W17_args (c : Dev nD) : ∀ a ∈ argRefs, W17 m ρ c (Proc.devRef .tc a) = m ((c : Thread nD τ).loc a) :=
  fun a ha => (W17_of m ρ c a (hostOps1_14_args a ha)).trans (W16_args m ρ c a ha)
/-- After `hostOps1_15`. -/
abbrev W18 : Dev nD → Valuation τ sig (Elt F) := fun c => StableHlo.after hostOps1_15 (W17 m ρ c)
/-- A reference `hostOps1_15` does not write keeps its contents across it. -/
theorem W18_of (c : Dev nD) (r : Ref sig .tc) (h : r ∉ hostOps1_15_W) : W18 m ρ c (Proc.devRef .tc r) = W17 m ρ c (Proc.devRef .tc r) :=
  StableHlo.after_of_writes_sub hostOps1_15 _ hostOps1_15_writes h
theorem W18_args (c : Dev nD) : ∀ a ∈ argRefs, W18 m ρ c (Proc.devRef .tc a) = m ((c : Thread nD τ).loc a) :=
  fun a ha => (W18_of m ρ c a (hostOps1_15_args a ha)).trans (W17_args m ρ c a ha)
/-- After `hostOps1_16`. -/
abbrev W19 : Dev nD → Valuation τ sig (Elt F) := fun c => StableHlo.after hostOps1_16 (W18 m ρ c)
/-- A reference `hostOps1_16` does not write keeps its contents across it. -/
theorem W19_of (c : Dev nD) (r : Ref sig .tc) (h : r ∉ hostOps1_16_W) : W19 m ρ c (Proc.devRef .tc r) = W18 m ρ c (Proc.devRef .tc r) :=
  StableHlo.after_of_writes_sub hostOps1_16 _ hostOps1_16_writes h
theorem W19_args (c : Dev nD) : ∀ a ∈ argRefs, W19 m ρ c (Proc.devRef .tc a) = m ((c : Thread nD τ).loc a) :=
  fun a ha => (W19_of m ρ c a (hostOps1_16_args a ha)).trans (W18_args m ρ c a ha)
/-- After `hostOps1_17`. -/
abbrev W20 : Dev nD → Valuation τ sig (Elt F) := fun c => StableHlo.after hostOps1_17 (W19 m ρ c)
/-- A reference `hostOps1_17` does not write keeps its contents across it. -/
theorem W20_of (c : Dev nD) (r : Ref sig .tc) (h : r ∉ hostOps1_17_W) : W20 m ρ c (Proc.devRef .tc r) = W19 m ρ c (Proc.devRef .tc r) :=
  StableHlo.after_of_writes_sub hostOps1_17 _ hostOps1_17_writes h
theorem W20_args (c : Dev nD) : ∀ a ∈ argRefs, W20 m ρ c (Proc.devRef .tc a) = m ((c : Thread nD τ).loc a) :=
  fun a ha => (W20_of m ρ c a (hostOps1_17_args a ha)).trans (W19_args m ρ c a ha)
/-- After `hostOps1_18` (region 1's entry). -/
abbrev W21 : Dev nD → Valuation τ sig (Elt F) := fun c => StableHlo.after hostOps1_18 (W20 m ρ c)
/-- A reference `hostOps1_18` does not write keeps its contents across it. -/
theorem W21_of (c : Dev nD) (r : Ref sig .tc) (h : r ∉ hostOps1_18_W) : W21 m ρ c (Proc.devRef .tc r) = W20 m ρ c (Proc.devRef .tc r) :=
  StableHlo.after_of_writes_sub hostOps1_18 _ hostOps1_18_writes h
theorem W21_args (c : Dev nD) : ∀ a ∈ argRefs, W21 m ρ c (Proc.devRef .tc a) = m ((c : Thread nD τ).loc a) :=
  fun a ha => (W21_of m ρ c a (hostOps1_18_args a ha)).trans (W20_args m ρ c a ha)
/-- The same read at the TensorCore's references (what region 1's proof data take). -/
abbrev V21 : (c : Dev nD) → (b : Ref sig .tc) → Buf (Elt F) ((c : Thread nD τ).loc b) := fun c b => W21 m ρ c b
/-- At region 1's exit: its arrays at what the pipeline leaves (the inputs as entered, each output's write-backs
    folded: `Dat.arrAt … N`), every other buffer as entered (`withArrays`). -/
def W22 (c : Dev nD) : Valuation τ sig (Elt F) :=
  Pipeline.withArrays spec1 c (W21 m ρ c) fun w => (dat1 (V21 m ρ) c).arrAt w cfg1.N
theorem W22_arr (c : Dev nD) (w : Fin cfg1.W) :
    W22 m ρ c (Proc.devRef .tc (Pipeline.arrRef spec1 w)) = (dat1 (V21 m ρ) c).arrAt w cfg1.N := by
  unfold W22; exact Pipeline.withArrays_arr spec1 launch1.win.arr_inj c _ _ w
theorem W22_of_ne (c : Dev nD) (b : Ref sig .tc) (hb : ∀ w, Pipeline.arrRef spec1 w ≠ b) :
    W22 m ρ c (Proc.devRef .tc b) = W21 m ρ c (Proc.devRef .tc b) := by
  unfold W22; exact Pipeline.withArrays_of_ne spec1 c _ _ b hb
/-- A reference that is none of region 1's OUTPUT arrays keeps its entry contents across it: an input window's
    array is never written back (`Dat.arrAt_in`, `A_eq1`); any other buffer is left as is. -/
theorem W22_of (c : Dev nD) (r : Ref sig .tc) (h : ∀ w : Fin cfg1.W, Pipeline.arrRef spec1 w = r → (cfg1.win w).isOut = false) :
    W22 m ρ c (Proc.devRef .tc r) = W21 m ρ c (Proc.devRef .tc r) := by
  by_cases hw : ∃ w : Fin cfg1.W, Pipeline.arrRef spec1 w = r
  · obtain ⟨w, rfl⟩ := hw
    exact (W22_arr m ρ c w).trans (((dat1 (V21 m ρ) c).arrAt_in w (h w rfl) _).trans (A_eq1 (V21 m ρ) c w))
  · exact W22_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W22_args (c : Dev nD) : ∀ a ∈ argRefs, W22 m ρ c (Proc.devRef .tc a) = m ((c : Thread nD τ).loc a) :=
  fun a ha => (W22_of m ρ c a (argsIn1 a ha)).trans (W21_args m ρ c a ha)
/-- The same read at the TensorCore's references (region 1's exit contents). -/
abbrev V22 : (c : Dev nD) → (b : Ref sig .tc) → Buf (Elt F) ((c : Thread nD τ).loc b) := fun c b => W22 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V21 m ρ) c).arrAt w cfg1.N = V22 m ρ c (Pipeline.arrRef spec1 w) :=
  (W22_arr m ρ c w).symm
theorem hrest1 (c : Dev nD) : ∀ b, b ∉ Finset.univ.image (Pipeline.arrRef spec1) → V22 m ρ c b = V21 m ρ c b :=
  fun b hb => W22_of_ne m ρ c b fun w e => hb (Finset.mem_image.mpr ⟨w, Finset.mem_univ _, e⟩)

/-! ### The arguments end as launched: no host stretch writes one and no region may change one (a region reads it
    through an input window or bypasses it) -/

theorem W22_main_arg0 (c : Dev nD) : W22 m ρ c (Proc.devRef .tc main_arg0) = m ((c : Thread nD τ).loc main_arg0) :=
  W22_args m ρ c main_arg0 (by decide)
theorem W22_main_arg1 (c : Dev nD) : W22 m ρ c (Proc.devRef .tc main_arg1) = m ((c : Thread nD τ).loc main_arg1) :=
  W22_args m ρ c main_arg1 (by decide)
theorem W22_main_arg2 (c : Dev nD) : W22 m ρ c (Proc.devRef .tc main_arg2) = m ((c : Thread nD τ).loc main_arg2) :=
  W22_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the library's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a pipeline's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the library's chain ends at it BESIDE the core owing nothing): every unscoped
    buffer at the last boundary's contents `W22`, the generator register at some state. -/
abbrev Tₙ (c : Dev nD) : sProp 𝕄 := iprop(StableHlo.held (c : Thread nD τ) (Pipeline.ucRefs τ sig) (W22 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W21`, left at `W22`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V21 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V21 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V21 m ρ c) (A_eq1 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V21 m ρ c) (V22 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 22 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .host (hseg hostOps1_13 hostOps1_13_sub hostOps1_13_fresh (W15 m ρ)),
    .host (hseg hostOps1_14 hostOps1_14_sub hostOps1_14_fresh (W16 m ρ)),
    .host (hseg hostOps1_15 hostOps1_15_sub hostOps1_15_fresh (W17 m ρ)),
    .host (hseg hostOps1_16 hostOps1_16_sub hostOps1_16_fresh (W18 m ρ)),
    .host (hseg hostOps1_17 hostOps1_17_sub hostOps1_17_fresh (W19 m ρ)),
    .host (hseg hostOps1_18 hostOps1_18_sub hostOps1_18_fresh (W20 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every fair execution terminates without fault, with every unscoped
    buffer at the last boundary's contents and every semaphore counter at zero. -/
theorem run_all : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W22 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h hz => ⟨fun c b hb => h c _ (mem_uc b hb), funext fun g => hz g (.inr (no_unscoped g.2))⟩)

/-- The frame: the argument arrays end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c main_arg0 (by decide)).trans (W22_main_arg0 m ρ c),
       (h.1 c main_arg1 (by decide)).trans (W22_main_arg1 m ρ c),
       (h.1 c main_arg2 (by decide)).trans (W22_main_arg2 m ρ c)⟩, h.2⟩) (run_all m ρ)

end Cert.Kernel.Gen

end
-- ==== Proof.LutI.lean ====
/-
The region of the `lut` call: the distances of the query sub-vectors to the codewords.

`dat0` is what the pipeline's proof asks of the call: the arrays as the region finds them (`V`), and what the body leaves in
each staging buffer; `body_obligation0` is the body's triple, and `out0_2` the closed form of the block of distances.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_lut` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s (`hA`) and whose body leaves the block in place (`hafter`): `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s (`hA`) and whose body leaves the block in place (`hafter`): `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S10x6x20x1 := Rect.unit (s := S10x6x20x1) ![0, 0, 0, 0] S1x1x20x1.size inb_S10x6x20x1_S1x1x20x1_0_0_0_0
abbrev r0_1 : Rect S10x20x256 := Rect.unit (s := S10x20x256) ![0, 0, 0] S1x20x256.size inb_S10x20x256_S1x20x256_0_0_0
abbrev r0_2 : Rect S10x6x20x1 := Rect.unit (s := S10x6x20x1) ![1, 0, 0, 0] S1x1x20x1.size inb_S10x6x20x1_S1x1x20x1_1_0_0_0
abbrev r0_3 : Rect S10x20x256 := Rect.unit (s := S10x20x256) ![1, 0, 0] S1x20x256.size inb_S10x20x256_S1x20x256_1_0_0
abbrev r0_4 : Rect S10x6x20x1 := Rect.unit (s := S10x6x20x1) ![2, 0, 0, 0] S1x1x20x1.size inb_S10x6x20x1_S1x1x20x1_2_0_0_0
abbrev r0_5 : Rect S10x20x256 := Rect.unit (s := S10x20x256) ![2, 0, 0] S1x20x256.size inb_S10x20x256_S1x20x256_2_0_0
abbrev r0_6 : Rect S10x6x20x1 := Rect.unit (s := S10x6x20x1) ![3, 0, 0, 0] S1x1x20x1.size inb_S10x6x20x1_S1x1x20x1_3_0_0_0
abbrev r0_7 : Rect S10x20x256 := Rect.unit (s := S10x20x256) ![3, 0, 0] S1x20x256.size inb_S10x20x256_S1x20x256_3_0_0
abbrev r0_8 : Rect S10x6x20x1 := Rect.unit (s := S10x6x20x1) ![4, 0, 0, 0] S1x1x20x1.size inb_S10x6x20x1_S1x1x20x1_4_0_0_0
abbrev r0_9 : Rect S10x20x256 := Rect.unit (s := S10x20x256) ![4, 0, 0] S1x20x256.size inb_S10x20x256_S1x20x256_4_0_0
abbrev r0_10 : Rect S10x6x20x1 := Rect.unit (s := S10x6x20x1) ![5, 0, 0, 0] S1x1x20x1.size inb_S10x6x20x1_S1x1x20x1_5_0_0_0
abbrev r0_11 : Rect S10x20x256 := Rect.unit (s := S10x20x256) ![5, 0, 0] S1x20x256.size inb_S10x20x256_S1x20x256_5_0_0
abbrev r0_12 : Rect S10x6x20x1 := Rect.unit (s := S10x6x20x1) ![6, 0, 0, 0] S1x1x20x1.size inb_S10x6x20x1_S1x1x20x1_6_0_0_0
abbrev r0_13 : Rect S10x20x256 := Rect.unit (s := S10x20x256) ![6, 0, 0] S1x20x256.size inb_S10x20x256_S1x20x256_6_0_0
abbrev r0_14 : Rect S10x6x20x1 := Rect.unit (s := S10x6x20x1) ![7, 0, 0, 0] S1x1x20x1.size inb_S10x6x20x1_S1x1x20x1_7_0_0_0
abbrev r0_15 : Rect S10x20x256 := Rect.unit (s := S10x20x256) ![7, 0, 0] S1x20x256.size inb_S10x20x256_S1x20x256_7_0_0
abbrev r0_16 : Rect S10x6x20x1 := Rect.unit (s := S10x6x20x1) ![8, 0, 0, 0] S1x1x20x1.size inb_S10x6x20x1_S1x1x20x1_8_0_0_0
abbrev r0_17 : Rect S10x20x256 := Rect.unit (s := S10x20x256) ![8, 0, 0] S1x20x256.size inb_S10x20x256_S1x20x256_8_0_0
abbrev r0_18 : Rect S10x6x20x1 := Rect.unit (s := S10x6x20x1) ![9, 0, 0, 0] S1x1x20x1.size inb_S10x6x20x1_S1x1x20x1_9_0_0_0
abbrev r0_19 : Rect S10x20x256 := Rect.unit (s := S10x20x256) ![9, 0, 0] S1x20x256.size inb_S10x20x256_S1x20x256_9_0_0
abbrev r0_20 : Rect S6x20x256 := Rect.unit (s := S6x20x256) ![0, 0, 0] S1x20x256.size inb_S6x20x256_S1x20x256_0_0_0
abbrev r0_21 : Rect S10x6x20x1 := Rect.unit (s := S10x6x20x1) ![0, 1, 0, 0] S1x1x20x1.size inb_S10x6x20x1_S1x1x20x1_0_1_0_0
abbrev r0_22 : Rect S10x6x20x1 := Rect.unit (s := S10x6x20x1) ![1, 1, 0, 0] S1x1x20x1.size inb_S10x6x20x1_S1x1x20x1_1_1_0_0
abbrev r0_23 : Rect S10x6x20x1 := Rect.unit (s := S10x6x20x1) ![2, 1, 0, 0] S1x1x20x1.size inb_S10x6x20x1_S1x1x20x1_2_1_0_0
abbrev r0_24 : Rect S10x6x20x1 := Rect.unit (s := S10x6x20x1) ![3, 1, 0, 0] S1x1x20x1.size inb_S10x6x20x1_S1x1x20x1_3_1_0_0
abbrev r0_25 : Rect S10x6x20x1 := Rect.unit (s := S10x6x20x1) ![4, 1, 0, 0] S1x1x20x1.size inb_S10x6x20x1_S1x1x20x1_4_1_0_0
abbrev r0_26 : Rect S10x6x20x1 := Rect.unit (s := S10x6x20x1) ![5, 1, 0, 0] S1x1x20x1.size inb_S10x6x20x1_S1x1x20x1_5_1_0_0
abbrev r0_27 : Rect S10x6x20x1 := Rect.unit (s := S10x6x20x1) ![6, 1, 0, 0] S1x1x20x1.size inb_S10x6x20x1_S1x1x20x1_6_1_0_0
abbrev r0_28 : Rect S10x6x20x1 := Rect.unit (s := S10x6x20x1) ![7, 1, 0, 0] S1x1x20x1.size inb_S10x6x20x1_S1x1x20x1_7_1_0_0
abbrev r0_29 : Rect S10x6x20x1 := Rect.unit (s := S10x6x20x1) ![8, 1, 0, 0] S1x1x20x1.size inb_S10x6x20x1_S1x1x20x1_8_1_0_0
abbrev r0_30 : Rect S10x6x20x1 := Rect.unit (s := S10x6x20x1) ![9, 1, 0, 0] S1x1x20x1.size inb_S10x6x20x1_S1x1x20x1_9_1_0_0
abbrev r0_31 : Rect S6x20x256 := Rect.unit (s := S6x20x256) ![1, 0, 0] S1x20x256.size inb_S6x20x256_S1x20x256_1_0_0
abbrev r0_32 : Rect S10x6x20x1 := Rect.unit (s := S10x6x20x1) ![0, 2, 0, 0] S1x1x20x1.size inb_S10x6x20x1_S1x1x20x1_0_2_0_0
abbrev r0_33 : Rect S10x6x20x1 := Rect.unit (s := S10x6x20x1) ![1, 2, 0, 0] S1x1x20x1.size inb_S10x6x20x1_S1x1x20x1_1_2_0_0
abbrev r0_34 : Rect S10x6x20x1 := Rect.unit (s := S10x6x20x1) ![2, 2, 0, 0] S1x1x20x1.size inb_S10x6x20x1_S1x1x20x1_2_2_0_0
abbrev r0_35 : Rect S10x6x20x1 := Rect.unit (s := S10x6x20x1) ![3, 2, 0, 0] S1x1x20x1.size inb_S10x6x20x1_S1x1x20x1_3_2_0_0
abbrev r0_36 : Rect S10x6x20x1 := Rect.unit (s := S10x6x20x1) ![4, 2, 0, 0] S1x1x20x1.size inb_S10x6x20x1_S1x1x20x1_4_2_0_0
abbrev r0_37 : Rect S10x6x20x1 := Rect.unit (s := S10x6x20x1) ![5, 2, 0, 0] S1x1x20x1.size inb_S10x6x20x1_S1x1x20x1_5_2_0_0
abbrev r0_38 : Rect S10x6x20x1 := Rect.unit (s := S10x6x20x1) ![6, 2, 0, 0] S1x1x20x1.size inb_S10x6x20x1_S1x1x20x1_6_2_0_0
abbrev r0_39 : Rect S10x6x20x1 := Rect.unit (s := S10x6x20x1) ![7, 2, 0, 0] S1x1x20x1.size inb_S10x6x20x1_S1x1x20x1_7_2_0_0
abbrev r0_40 : Rect S10x6x20x1 := Rect.unit (s := S10x6x20x1) ![8, 2, 0, 0] S1x1x20x1.size inb_S10x6x20x1_S1x1x20x1_8_2_0_0
abbrev r0_41 : Rect S10x6x20x1 := Rect.unit (s := S10x6x20x1) ![9, 2, 0, 0] S1x1x20x1.size inb_S10x6x20x1_S1x1x20x1_9_2_0_0
abbrev r0_42 : Rect S6x20x256 := Rect.unit (s := S6x20x256) ![2, 0, 0] S1x20x256.size inb_S6x20x256_S1x20x256_2_0_0
abbrev r0_43 : Rect S10x6x20x1 := Rect.unit (s := S10x6x20x1) ![0, 3, 0, 0] S1x1x20x1.size inb_S10x6x20x1_S1x1x20x1_0_3_0_0
abbrev r0_44 : Rect S10x6x20x1 := Rect.unit (s := S10x6x20x1) ![1, 3, 0, 0] S1x1x20x1.size inb_S10x6x20x1_S1x1x20x1_1_3_0_0
abbrev r0_45 : Rect S10x6x20x1 := Rect.unit (s := S10x6x20x1) ![2, 3, 0, 0] S1x1x20x1.size inb_S10x6x20x1_S1x1x20x1_2_3_0_0
abbrev r0_46 : Rect S10x6x20x1 := Rect.unit (s := S10x6x20x1) ![3, 3, 0, 0] S1x1x20x1.size inb_S10x6x20x1_S1x1x20x1_3_3_0_0
abbrev r0_47 : Rect S10x6x20x1 := Rect.unit (s := S10x6x20x1) ![4, 3, 0, 0] S1x1x20x1.size inb_S10x6x20x1_S1x1x20x1_4_3_0_0
abbrev r0_48 : Rect S10x6x20x1 := Rect.unit (s := S10x6x20x1) ![5, 3, 0, 0] S1x1x20x1.size inb_S10x6x20x1_S1x1x20x1_5_3_0_0
abbrev r0_49 : Rect S10x6x20x1 := Rect.unit (s := S10x6x20x1) ![6, 3, 0, 0] S1x1x20x1.size inb_S10x6x20x1_S1x1x20x1_6_3_0_0
abbrev r0_50 : Rect S10x6x20x1 := Rect.unit (s := S10x6x20x1) ![7, 3, 0, 0] S1x1x20x1.size inb_S10x6x20x1_S1x1x20x1_7_3_0_0
abbrev r0_51 : Rect S10x6x20x1 := Rect.unit (s := S10x6x20x1) ![8, 3, 0, 0] S1x1x20x1.size inb_S10x6x20x1_S1x1x20x1_8_3_0_0
abbrev r0_52 : Rect S10x6x20x1 := Rect.unit (s := S10x6x20x1) ![9, 3, 0, 0] S1x1x20x1.size inb_S10x6x20x1_S1x1x20x1_9_3_0_0
abbrev r0_53 : Rect S6x20x256 := Rect.unit (s := S6x20x256) ![3, 0, 0] S1x20x256.size inb_S6x20x256_S1x20x256_3_0_0
abbrev r0_54 : Rect S10x6x20x1 := Rect.unit (s := S10x6x20x1) ![0, 4, 0, 0] S1x1x20x1.size inb_S10x6x20x1_S1x1x20x1_0_4_0_0
abbrev r0_55 : Rect S10x6x20x1 := Rect.unit (s := S10x6x20x1) ![1, 4, 0, 0] S1x1x20x1.size inb_S10x6x20x1_S1x1x20x1_1_4_0_0
abbrev r0_56 : Rect S10x6x20x1 := Rect.unit (s := S10x6x20x1) ![2, 4, 0, 0] S1x1x20x1.size inb_S10x6x20x1_S1x1x20x1_2_4_0_0
abbrev r0_57 : Rect S10x6x20x1 := Rect.unit (s := S10x6x20x1) ![3, 4, 0, 0] S1x1x20x1.size inb_S10x6x20x1_S1x1x20x1_3_4_0_0
abbrev r0_58 : Rect S10x6x20x1 := Rect.unit (s := S10x6x20x1) ![4, 4, 0, 0] S1x1x20x1.size inb_S10x6x20x1_S1x1x20x1_4_4_0_0
abbrev r0_59 : Rect S10x6x20x1 := Rect.unit (s := S10x6x20x1) ![5, 4, 0, 0] S1x1x20x1.size inb_S10x6x20x1_S1x1x20x1_5_4_0_0
abbrev r0_60 : Rect S10x6x20x1 := Rect.unit (s := S10x6x20x1) ![6, 4, 0, 0] S1x1x20x1.size inb_S10x6x20x1_S1x1x20x1_6_4_0_0
abbrev r0_61 : Rect S10x6x20x1 := Rect.unit (s := S10x6x20x1) ![7, 4, 0, 0] S1x1x20x1.size inb_S10x6x20x1_S1x1x20x1_7_4_0_0
abbrev r0_62 : Rect S10x6x20x1 := Rect.unit (s := S10x6x20x1) ![8, 4, 0, 0] S1x1x20x1.size inb_S10x6x20x1_S1x1x20x1_8_4_0_0
abbrev r0_63 : Rect S10x6x20x1 := Rect.unit (s := S10x6x20x1) ![9, 4, 0, 0] S1x1x20x1.size inb_S10x6x20x1_S1x1x20x1_9_4_0_0
abbrev r0_64 : Rect S6x20x256 := Rect.unit (s := S6x20x256) ![4, 0, 0] S1x20x256.size inb_S6x20x256_S1x20x256_4_0_0
abbrev r0_65 : Rect S10x6x20x1 := Rect.unit (s := S10x6x20x1) ![0, 5, 0, 0] S1x1x20x1.size inb_S10x6x20x1_S1x1x20x1_0_5_0_0
abbrev r0_66 : Rect S10x6x20x1 := Rect.unit (s := S10x6x20x1) ![1, 5, 0, 0] S1x1x20x1.size inb_S10x6x20x1_S1x1x20x1_1_5_0_0
abbrev r0_67 : Rect S10x6x20x1 := Rect.unit (s := S10x6x20x1) ![2, 5, 0, 0] S1x1x20x1.size inb_S10x6x20x1_S1x1x20x1_2_5_0_0
abbrev r0_68 : Rect S10x6x20x1 := Rect.unit (s := S10x6x20x1) ![3, 5, 0, 0] S1x1x20x1.size inb_S10x6x20x1_S1x1x20x1_3_5_0_0
abbrev r0_69 : Rect S10x6x20x1 := Rect.unit (s := S10x6x20x1) ![4, 5, 0, 0] S1x1x20x1.size inb_S10x6x20x1_S1x1x20x1_4_5_0_0
abbrev r0_70 : Rect S10x6x20x1 := Rect.unit (s := S10x6x20x1) ![5, 5, 0, 0] S1x1x20x1.size inb_S10x6x20x1_S1x1x20x1_5_5_0_0
abbrev r0_71 : Rect S10x6x20x1 := Rect.unit (s := S10x6x20x1) ![6, 5, 0, 0] S1x1x20x1.size inb_S10x6x20x1_S1x1x20x1_6_5_0_0
abbrev r0_72 : Rect S10x6x20x1 := Rect.unit (s := S10x6x20x1) ![7, 5, 0, 0] S1x1x20x1.size inb_S10x6x20x1_S1x1x20x1_7_5_0_0
abbrev r0_73 : Rect S10x6x20x1 := Rect.unit (s := S10x6x20x1) ![8, 5, 0, 0] S1x1x20x1.size inb_S10x6x20x1_S1x1x20x1_8_5_0_0
abbrev r0_74 : Rect S10x6x20x1 := Rect.unit (s := S10x6x20x1) ![9, 5, 0, 0] S1x1x20x1.size inb_S10x6x20x1_S1x1x20x1_9_5_0_0
abbrev r0_75 : Rect S6x20x256 := Rect.unit (s := S6x20x256) ![5, 0, 0] S1x20x256.size inb_S6x20x256_S1x20x256_5_0_0

/-! ## What the body leaves in each output window's buffer -/

/-- Window 2's staging buffer after the body, from the input windows' blocks: its 6 stores as pieces, last
    first (`View.canon`; the payloads are the skeleton's). -/
def out0_2 (x0 : Vec F S10x6x20x1 .f32) (x1 : Vec F S10x20x256 .f32) : Vec F S6x20x256 .f32 :=
  View.canon [⟨r0_75, k0_pay1 (k0_pay28 (k0_pay27 (View.ld x0 r0_65) (View.ld x1 r0_1) (View.ld x0 r0_66) (View.ld x1 r0_3) (View.ld x0 r0_67) (View.ld x1 r0_5) (View.ld x0 r0_68) (View.ld x1 r0_7)) (View.ld x0 r0_69) (View.ld x1 r0_9) (View.ld x0 r0_70) (View.ld x1 r0_11) (View.ld x0 r0_71) (View.ld x1 r0_13) (View.ld x0 r0_72) (View.ld x1 r0_15)) (View.ld x0 r0_73) (View.ld x1 r0_17) (View.ld x0 r0_74) (View.ld x1 r0_19)⟩,
    ⟨r0_64, k0_pay26 (k0_pay24 (k0_pay22 (View.ld x0 r0_54) (View.ld x1 r0_1) (View.ld x0 r0_55) (View.ld x1 r0_3)) (k0_pay23 (View.ld x0 r0_56)) (View.ld x1 r0_5) (View.ld x0 r0_57) (View.ld x1 r0_7) (View.ld x0 r0_58) (View.ld x1 r0_9) (View.ld x0 r0_59) (View.ld x1 r0_11)) (k0_pay25 (View.ld x0 r0_60)) (View.ld x1 r0_13) (View.ld x0 r0_61) (View.ld x1 r0_15) (View.ld x0 r0_62) (View.ld x1 r0_17) (View.ld x0 r0_63) (View.ld x1 r0_19)⟩,
    ⟨r0_53, k0_pay21 (k0_pay19 (k0_pay17 (k0_pay15 (View.ld x1 r0_1)) (k0_pay16 (View.ld x0 r0_43)) (View.ld x0 r0_44) (View.ld x1 r0_3) (View.ld x0 r0_45) (View.ld x1 r0_5) (View.ld x0 r0_46) (View.ld x1 r0_7)) (k0_pay18 (View.ld x0 r0_47) (View.ld x1 r0_9)) (View.ld x0 r0_48) (View.ld x1 r0_11) (View.ld x0 r0_49) (View.ld x1 r0_13) (View.ld x0 r0_50) (View.ld x1 r0_15)) (k0_pay20 (View.ld x0 r0_51) (View.ld x1 r0_17)) (View.ld x0 r0_52) (View.ld x1 r0_19)⟩,
    ⟨r0_42, k0_pay14 (k0_pay13 (k0_pay12 (View.ld x0 r0_32) (View.ld x1 r0_1) (View.ld x0 r0_33) (View.ld x1 r0_3) (View.ld x0 r0_34) (View.ld x1 r0_5)) (View.ld x0 r0_35) (View.ld x1 r0_7) (View.ld x0 r0_36) (View.ld x1 r0_9) (View.ld x0 r0_37) (View.ld x1 r0_11) (View.ld x0 r0_38) (View.ld x1 r0_13)) (View.ld x0 r0_39) (View.ld x1 r0_15) (View.ld x0 r0_40) (View.ld x1 r0_17) (View.ld x0 r0_41) (View.ld x1 r0_19)⟩,
    ⟨r0_31, k0_pay11 (k0_pay9 (k0_pay7 (k0_pay5 (View.ld x0 r0_21) (View.ld x1 r0_1)) (k0_pay6 (View.ld x0 r0_22)) (View.ld x1 r0_3) (View.ld x0 r0_23) (View.ld x1 r0_5) (View.ld x0 r0_24) (View.ld x1 r0_7) (View.ld x0 r0_25) (View.ld x1 r0_9)) (k0_pay8 (View.ld x0 r0_26)) (View.ld x1 r0_11) (View.ld x0 r0_27) (View.ld x1 r0_13) (View.ld x0 r0_28) (View.ld x1 r0_15) (View.ld x0 r0_29) (View.ld x1 r0_17)) (k0_pay10 (View.ld x0 r0_30)) (View.ld x1 r0_19)⟩,
    ⟨r0_20, k0_pay4 (k0_pay3 (k0_pay2 (View.ld x0 r0_0) (View.ld x1 r0_1) (View.ld x0 r0_2) (View.ld x1 r0_3) (View.ld x0 r0_4) (View.ld x1 r0_5) (View.ld x0 r0_6) (View.ld x1 r0_7)) (View.ld x0 r0_8) (View.ld x1 r0_9) (View.ld x0 r0_10) (View.ld x1 r0_11) (View.ld x0 r0_12) (View.ld x1 r0_13) (View.ld x0 r0_14) (View.ld x1 r0_15)) (View.ld x0 r0_16) (View.ld x1 r0_17) (View.ld x0 r0_18) (View.ld x1 r0_19)⟩]

/-- Its stores tile the buffer (checked by evaluation), so they cover it. -/
theorem cover0_2 (p0 : Vec F S1x20x256 .f32) (p1 : Vec F S1x20x256 .f32) (p2 : Vec F S1x20x256 .f32) (p3 : Vec F S1x20x256 .f32) (p4 : Vec F S1x20x256 .f32) (p5 : Vec F S1x20x256 .f32) (y : S6x20x256.Idx) :
    ∃ pc ∈ ([⟨r0_75, p0⟩, ⟨r0_64, p1⟩, ⟨r0_53, p2⟩, ⟨r0_42, p3⟩, ⟨r0_31, p4⟩, ⟨r0_20, p5⟩] : List (View.Piece (Elt F) S6x20x256 .f32)), y ∈ pc.1.set :=
  View.cover_of_tiled [⟨r0_75, p0⟩, ⟨r0_64, p1⟩, ⟨r0_53, p2⟩, ⟨r0_42, p3⟩, ⟨r0_31, p4⟩, ⟨r0_20, p5⟩] S1x20x256.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs, through every part call. -/
theorem sound_kernel0 (c : Dev nD) (E : Set ℕ) (arg0 : Memref sig .tc .vmem S10x6x20x1 .f32) (harg0 : arg0.IsWhole) (arg1 : Memref sig .tc .vmem S10x20x256 .f32) (harg1 : arg1.IsWhole) (arg2 : Memref sig .tc .vmem S6x20x256 .f32) (harg2 : arg2.IsWhole)
    (x0 : Vec F S10x6x20x1 .f32) (x1 : Vec F S10x20x256 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0_lut arg0 harg0 arg1 harg1 arg2 harg2) K := by
  simp only [cc0_lut_eq_skeleton]; unfold cc0_lut_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _ _ _ _ _ _)

/-! ## The pipeline's proof data -/

/-- The proof data of pipeline 0 on core `c`: the arrays as the region finds them (`V`); after the body at
    point `t` each input's buffer at its block and each output's at `out0_W` of the input blocks; the invariant the
    pipeline's (`ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (`BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.TripI.lean ====
/-
One trip of the loop of the `adc` body, run at a symbolic trip number: the sums it stages in the scratch buffer and the tiles
it stores into the output block, as lists of pieces.
-/
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

/-- One trip's resources: what the region reads (arg1, arg2, arg3) at its contents, what it writes
   (arg4, arg5) at any. -/
abbrev Trip_k1_t1 (c : Dev nD) (arg1 : Memref sig .tc .vmem S6x20x256 .f32) (arg2 : Memref sig .tc .vmem S3x256x256 .bf16) (arg3 : Memref sig .tc .vmem S20x32x1024 .i8) (arg4 : Memref sig .tc .vmem S6x32768 .bf16) (arg5 : Memref sig .tc .vmem S6x16x2x128 .bf16) (X_arg1 : BufTy.Contents (Elt F) arg1.view.ty) (X_arg2 : BufTy.Contents (Elt F) arg2.view.ty) (X_arg3 : BufTy.Contents (Elt F) arg3.view.ty) (f_arg4 : BufTy.Contents (Elt F) arg4.view.ty) (f_arg5 : BufTy.Contents (Elt F) arg5.view.ty) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} f_arg4) ∗ (arg5.view.loc (c : Thread nD τ) ↦[arg5.view.set]{fullShare} f_arg5))

/-- One trip of `k1_t1_loop` at a symbolic `k`, run by `sl_exec`. The pieces it writes into `arg4` and `arg5` are the ones the
    run finds, as functions of the contents the trip finds in the two buffers (it loads some of them back). It is cited and never
    unfolded, hence `@[irreducible]`. -/
@[irreducible] def trip_k1_t1 (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) :
    Σ' (L_arg4 : (BufTy.Contents (Elt F) arg4.view.ty → BufTy.Contents (Elt F) arg5.view.ty → List (View.Piece (Elt F) S6x32768 .bf16))) , { L_arg5 : (BufTy.Contents (Elt F) arg4.view.ty → BufTy.Contents (Elt F) arg5.view.ty → List (View.Piece (Elt F) S6x16x2x128 .bf16)) // ∀ (E : Set ℕ) (f_arg4 : BufTy.Contents (Elt F) arg4.view.ty) (f_arg5 : BufTy.Contents (Elt F) arg5.view.ty),
      Trip_k1_t1 (F := F) c arg1 arg2 arg3 arg4 arg5 X_arg1 X_arg2 X_arg3 f_arg4 f_arg5
      ⊢ wp frame (wpE (defs₀ (F := F)) 𝒱 (c : Thread nD τ) bd) E (k1_t1_body (F := F) i arg1 harg1 arg2 harg2 arg3 harg3 arg4 harg4 arg5 harg5 v0 k PUnit.unit)
          (fun _ => Trip_k1_t1 (F := F) c arg1 arg2 arg3 arg4 arg5 X_arg1 X_arg2 X_arg3 (arg4.view.writes (Elt F) f_arg4 (L_arg4 f_arg4 f_arg5)) (arg5.view.writes (Elt F) f_arg5 (L_arg5 f_arg4 f_arg5))) } := by
  have hk : k.val < 8 := Nat.lt_of_lt_of_le k.isLt k1_t1_abs.2.1
  refine ⟨?_, ?_, fun E f_arg4 f_arg5 => ?run⟩
  case run =>
    unfold k1_t1_body
    iintro ⟨HR_arg1, HR_arg2, HR_arg3, HW_arg4, HW_arg5⟩
    sl_exec_parts
    sl_step
    sl_close

end Cert.KernelIdeal.Gen

end
-- ==== Proof.LoopI.lean ====
/-
The loop of the `adc` body (KernelIdeal): eight trips, each storing 32 tiles of the output block.

One trip (`trip_k1_t1`, run in TripI) stages its sums in the scratch buffer, loads them back and stores the tiles.
The stores into the scratch are strided (every second row of words), so that the loads are covered is shown here
(`stage_cover`); it follows that the tiles a trip stores do not depend on what the buffers held before (`trip_pieces`), and
the loop's invariant says that before trip `k` the output buffer holds the tiles of the trips before `k`.
-/
module

public import proofs.«01_k».proof.Proof.TripI
public import Idealize.ShloMosaic.Lib.Exec
public import Idealize.ShloMosaic.Lib.Tactic
public import Idealize.ShloMosaic.Lib.HeldBySlice
public import Idealize.ShloMosaic.Lib.Pipeline.Kit

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the run. -/
local notation "𝕄G" => MT nD τ sig Unit (Elt F) ℕ (UR sig nD τ) ℕ

/-- The certificate that two interleaved pieces of the scratch (list positions `i₀` and `i₁`) cover `n + 1` pairs of rows:
    row by row, alternately in the one and in the other. -/
def rowsCov (i₀ i₁ : ℕ) : ℕ → LoadRect.Cov
  | 0 => .split 1 1 (.leaf i₀) (.leaf i₁)
  | n + 1 => .split 1 1 (.leaf i₀) (.split 1 1 (.leaf i₁) (rowsCov i₀ i₁ n))

section Stage

variable (arg1 : Memref sig .tc .vmem S6x20x256 .f32) (arg3 : Memref sig .tc .vmem S20x32x1024 .i8)
  (X_arg1 : BufTy.Contents (Elt F) arg1.view.ty) (X_arg3 : BufTy.Contents (Elt F) arg3.view.ty) (k : Fin k1_t1_loop.trips)

/-- The stores of a trip into the scratch cover the plane of query 0. -/
theorem stage_cover_0 (j : (Rect.unit (s := S6x16x2x128) ![0, 0, 0, 0] S1x16x2x128.size inb_S6x16x2x128_S1x16x2x128_0_0_0_0).toLoadRect.shape.Idx) :
    ∃ p ∈ trip_k1_t1.sl.HW_arg5_12 (F := F) arg1 arg3 X_arg1 X_arg3 k,
      (Rect.unit (s := S6x16x2x128) ![0, 0, 0, 0] S1x16x2x128.size inb_S6x16x2x128_S1x16x2x128_0_0_0_0).toLoadRect.idx j ∈ p.1.set :=
  LoadRect.cover_of_covChk _ _ (rowsCov 11 10 7) (by sl_kernel_rfl) j

/-- The stores of a trip into the scratch cover the plane of query 1. -/
theorem stage_cover_1 (j : (Rect.unit (s := S6x16x2x128) ![1, 0, 0, 0] S1x16x2x128.size inb_S6x16x2x128_S1x16x2x128_1_0_0_0).toLoadRect.shape.Idx) :
    ∃ p ∈ trip_k1_t1.sl.HW_arg5_12 (F := F) arg1 arg3 X_arg1 X_arg3 k,
      (Rect.unit (s := S6x16x2x128) ![1, 0, 0, 0] S1x16x2x128.size inb_S6x16x2x128_S1x16x2x128_1_0_0_0).toLoadRect.idx j ∈ p.1.set :=
  LoadRect.cover_of_covChk _ _ (rowsCov 9 8 7) (by sl_kernel_rfl) j

/-- The stores of a trip into the scratch cover the plane of query 2. -/
theorem stage_cover_2 (j : (Rect.unit (s := S6x16x2x128) ![2, 0, 0, 0] S1x16x2x128.size inb_S6x16x2x128_S1x16x2x128_2_0_0_0).toLoadRect.shape.Idx) :
    ∃ p ∈ trip_k1_t1.sl.HW_arg5_12 (F := F) arg1 arg3 X_arg1 X_arg3 k,
      (Rect.unit (s := S6x16x2x128) ![2, 0, 0, 0] S1x16x2x128.size inb_S6x16x2x128_S1x16x2x128_2_0_0_0).toLoadRect.idx j ∈ p.1.set :=
  LoadRect.cover_of_covChk _ _ (rowsCov 7 6 7) (by sl_kernel_rfl) j

/-- The stores of a trip into the scratch cover the plane of query 3. -/
theorem stage_cover_3 (j : (Rect.unit (s := S6x16x2x128) ![3, 0, 0, 0] S1x16x2x128.size inb_S6x16x2x128_S1x16x2x128_3_0_0_0).toLoadRect.shape.Idx) :
    ∃ p ∈ trip_k1_t1.sl.HW_arg5_12 (F := F) arg1 arg3 X_arg1 X_arg3 k,
      (Rect.unit (s := S6x16x2x128) ![3, 0, 0, 0] S1x16x2x128.size inb_S6x16x2x128_S1x16x2x128_3_0_0_0).toLoadRect.idx j ∈ p.1.set :=
  LoadRect.cover_of_covChk _ _ (rowsCov 5 4 7) (by sl_kernel_rfl) j

/-- The stores of a trip into the scratch cover the plane of query 4. -/
theorem stage_cover_4 (j : (Rect.unit (s := S6x16x2x128) ![4, 0, 0, 0] S1x16x2x128.size inb_S6x16x2x128_S1x16x2x128_4_0_0_0).toLoadRect.shape.Idx) :
    ∃ p ∈ trip_k1_t1.sl.HW_arg5_12 (F := F) arg1 arg3 X_arg1 X_arg3 k,
      (Rect.unit (s := S6x16x2x128) ![4, 0, 0, 0] S1x16x2x128.size inb_S6x16x2x128_S1x16x2x128_4_0_0_0).toLoadRect.idx j ∈ p.1.set :=
  LoadRect.cover_of_covChk _ _ (rowsCov 3 2 7) (by sl_kernel_rfl) j

/-- The stores of a trip into the scratch cover the plane of query 5. -/
theorem stage_cover_5 (j : (Rect.unit (s := S6x16x2x128) ![5, 0, 0, 0] S1x16x2x128.size inb_S6x16x2x128_S1x16x2x128_5_0_0_0).toLoadRect.shape.Idx) :
    ∃ p ∈ trip_k1_t1.sl.HW_arg5_12 (F := F) arg1 arg3 X_arg1 X_arg3 k,
      (Rect.unit (s := S6x16x2x128) ![5, 0, 0, 0] S1x16x2x128.size inb_S6x16x2x128_S1x16x2x128_5_0_0_0).toLoadRect.idx j ∈ p.1.set :=
  LoadRect.cover_of_covChk _ _ (rowsCov 1 0 7) (by sl_kernel_rfl) j

end Stage

/-- The tiles a trip stores into the output block (last first), taken over arbitrary contents of the two buffers it writes. -/
@[irreducible] def tripPieces (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) : List (View.Piece (Elt F) S6x32768 .bf16) :=
  (trip_k1_t1 (F := F) 𝒱 c bd i arg1 harg1 arg2 harg2 arg3 harg3 arg4 harg4 arg5 harg5 v0 X_arg1 X_arg2 X_arg3 k).1 arg4.view.junk arg5.view.junk

/-- They are the same over any contents. -/
theorem trip_pieces (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) (f4 : BufTy.Contents (Elt F) arg4.view.ty) (f5 : BufTy.Contents (Elt F) arg5.view.ty) :
    (trip_k1_t1 (F := F) 𝒱 c bd i arg1 harg1 arg2 harg2 arg3 harg3 arg4 harg4 arg5 harg5 v0 X_arg1 X_arg2 X_arg3 k).1 f4 f5 = tripPieces 𝒱 c bd i arg1 harg1 arg2 harg2 arg3 harg3 arg4 harg4 arg5 harg5 v0 X_arg1 X_arg2 X_arg3 k := by
  unfold tripPieces trip_k1_t1
  dsimp only
  simp only [trip_k1_t1.sl.v6045, trip_k1_t1.sl.v6025, trip_k1_t1.sl.v6073, trip_k1_t1.sl.HW_arg4_10, trip_k1_t1.sl.r_867, trip_k1_t1.sl.v6021, trip_k1_t1.sl.v6017, trip_k1_t1.sl.HW_arg4_19, trip_k1_t1.sl.v6089, trip_k1_t1.sl.v6065, trip_k1_t1.sl.r_868, trip_k1_t1.sl.r_871, trip_k1_t1.sl.r_877, trip_k1_t1.sl.v6117, trip_k1_t1.sl.r_878, trip_k1_t1.sl.r_869, trip_k1_t1.sl.v6053, trip_k1_t1.sl.v6113, trip_k1_t1.sl.v6041, trip_k1_t1.sl.r_880, trip_k1_t1.sl.r_876, trip_k1_t1.sl.v6037, trip_k1_t1.sl.r_873, trip_k1_t1.sl.HW_arg4_2, trip_k1_t1.sl.v6097, trip_k1_t1.sl.r_866, trip_k1_t1.sl.v6077, trip_k1_t1.sl.v6057, trip_k1_t1.sl.v6081, trip_k1_t1.sl.r_861, trip_k1_t1.sl.r_864, trip_k1_t1.sl.v6101, trip_k1_t1.sl.r_865, trip_k1_t1.sl.v6085, trip_k1_t1.sl.v6069, trip_k1_t1.sl.v6109, trip_k1_t1.sl.v6029, trip_k1_t1.sl.r_863, trip_k1_t1.sl.v6061, trip_k1_t1.sl.r_875, trip_k1_t1.sl.r_872, trip_k1_t1.sl.v6105, trip_k1_t1.sl.r_874, trip_k1_t1.sl.r_862, trip_k1_t1.sl.v6033, trip_k1_t1.sl.v6093, trip_k1_t1.sl.r_879, trip_k1_t1.sl.r_870, trip_k1_t1.sl.v6049,
    View.readAt_writes_of_cover _ _ _ _ (stage_cover_0 arg1 arg3 X_arg1 X_arg3 k), View.readAt_writes_of_cover _ _ _ _ (stage_cover_1 arg1 arg3 X_arg1 X_arg3 k), View.readAt_writes_of_cover _ _ _ _ (stage_cover_2 arg1 arg3 X_arg1 X_arg3 k), View.readAt_writes_of_cover _ _ _ _ (stage_cover_3 arg1 arg3 X_arg1 X_arg3 k), View.readAt_writes_of_cover _ _ _ _ (stage_cover_4 arg1 arg3 X_arg1 X_arg3 k), View.readAt_writes_of_cover _ _ _ _ (stage_cover_5 arg1 arg3 X_arg1 X_arg3 k)]

/-- The tiles of the trips before `k`, last first. -/
def piecesBefore (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) : ℕ → List (View.Piece (Elt F) S6x32768 .bf16)
  | 0 => []
  | k + 1 => (if h : k < k1_t1_loop.trips then tripPieces 𝒱 c bd i arg1 harg1 arg2 harg2 arg3 harg3 arg4 harg4 arg5 harg5 v0 X_arg1 X_arg2 X_arg3 ⟨k, h⟩ else []) ++ piecesBefore 𝒱 c bd i arg1 harg1 arg2 harg2 arg3 harg3 arg4 harg4 arg5 harg5 v0 X_arg1 X_arg2 X_arg3 k

/-- One more trip puts its tiles in front. -/
theorem piecesBefore_succ (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (k : Fin k1_t1_loop.trips) :
    piecesBefore (F := F) 𝒱 c bd i arg1 harg1 arg2 harg2 arg3 harg3 arg4 harg4 arg5 harg5 v0 X_arg1 X_arg2 X_arg3 (k.val + 1) = tripPieces 𝒱 c bd i arg1 harg1 arg2 harg2 arg3 harg3 arg4 harg4 arg5 harg5 v0 X_arg1 X_arg2 X_arg3 k ++ piecesBefore 𝒱 c bd i arg1 harg1 arg2 harg2 arg3 harg3 arg4 harg4 arg5 harg5 v0 X_arg1 X_arg2 X_arg3 k.val := by
  rw [piecesBefore, dif_pos k.isLt]

/-- The invariant before trip `k`: the operands as they were, the tiles of the trips before `k` in the output block, and
    anything in the scratch. -/
abbrev inv_k1_t1 (𝒱 : Variants) (c : Dev nD) (bd : Option 𝒱.V) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (G_arg4 : BufTy.Contents (Elt F) arg4.view.ty) (k : ℕ) (_u : PUnit) : sProp 𝕄G :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (∃ f, (arg4.view.loc (c : Thread nD τ) ↦[arg4.view.set]{fullShare} f) ∗ ⌜f = arg4.view.writes (Elt F) G_arg4 (piecesBefore (F := F) 𝒱 c bd i arg1 harg1 arg2 harg2 arg3 harg3 arg4 harg4 arg5 harg5 v0 X_arg1 X_arg2 X_arg3 k)⌝) ∗ (∃ f, (arg5.view.loc (c : Thread nD τ) ↦[arg5.view.set]{fullShare} f)))

set_option warn.classDefReducibility false in
/-- The loop by its invariant: each trip is `trip_k1_t1`, its tiles those of `trip_pieces`. -/
@[sl_loop] def loopInv_k1_t1 (𝒱 : Variants) (c : Dev nD) (bd : Option 𝒱.V) (E : Set ℕ) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole) (v0 : IVec S16x128 32) (X_arg1 : BufTy.Contents (Elt F) arg1.view.ty) (X_arg2 : BufTy.Contents (Elt F) arg2.view.ty) (X_arg3 : BufTy.Contents (Elt F) arg3.view.ty) (G_arg4 : BufTy.Contents (Elt F) arg4.view.ty) :
    LoopInvTy_k1_t1 (F := F) Unit ℕ (UR sig nD τ) ℕ 𝒱 c bd E i arg1 harg1 arg2 harg2 arg3 harg3 arg4 harg4 arg5 harg5 v0 where
  inv := inv_k1_t1 (F := F) 𝒱 c bd i arg1 harg1 arg2 harg2 arg3 harg3 arg4 harg4 arg5 harg5 v0 X_arg1 X_arg2 X_arg3 G_arg4
  step k acc := by
    iintro ⟨HR_arg1, HR_arg2, HR_arg3, ⟨%f_arg4, HW_arg4, %h_arg4⟩, ⟨%f_arg5, HW_arg5⟩⟩
    iapply (wp_wand_r Idealize.ShloMosaic.frame (wpE (defs₀ (F := F)) 𝒱 (c : Thread nD τ) bd) E)
    isplitl [HR_arg1 HR_arg2 HR_arg3 HW_arg4 HW_arg5]
    · iapply ((trip_k1_t1 (F := F) 𝒱 c bd i arg1 harg1 arg2 harg2 arg3 harg3 arg4 harg4 arg5 harg5 v0 X_arg1 X_arg2 X_arg3 k).2.2 E f_arg4 f_arg5)
      isplitl [HR_arg1]; · iexact HR_arg1
      isplitl [HR_arg2]; · iexact HR_arg2
      isplitl [HR_arg3]; · iexact HR_arg3
      isplitl [HW_arg4]; · iexact HW_arg4
      iexact HW_arg5
    · iintro %_ ⟨HR_arg1, HR_arg2, HR_arg3, HW_arg4, HW_arg5⟩
      isplitl [HR_arg1]; · iexact HR_arg1
      isplitl [HR_arg2]; · iexact HR_arg2
      isplitl [HR_arg3]; · iexact HR_arg3
      rw [piecesBefore_succ]
      isplitl [HW_arg4]
      · iexists _; isplitl [HW_arg4]; · iexact HW_arg4
        ipureintro; rw [trip_pieces, h_arg4, ← View.writes_append]
      iexists _; iexact HW_arg5

end Cert.KernelIdeal.Gen

end
-- ==== Proof.AdcI.lean ====
/-
The region of the `adc` call: the distances of the codes to the queries.

`kernelRun1_A` runs the body through its loop (LoopI), `out1_A_3` is what it leaves in the output's staging buffer, and
`dat1`, `body_obligation1` are what the pipeline's proof asks of the call.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.LoopI
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_adc` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s (`hA`) and whose body leaves the block in place (`hafter`): `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s (`hA`) and whose body leaves the block in place (`hafter`): `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 3, through which its contents are stated (`View.read_writes_of_cover`: the
    choice does not matter). -/
abbrev VO1_3 : View sig .tc .vmem S6x32768 .bf16 := (Memref.whole cc1_stg3_0 : Memref sig .tc .vmem S6x32768 .bf16).view
/-- Each window's current staging memref at point `t`, spelled as the pipeline passes it (`bodyAt1`), and its wholeness. -/
abbrev ms1_0 (t : Fin cfg1.N) : Memref sig .tc .vmem S6x20x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3x256x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S20x32x1024 .i8 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S6x32768 .bf16 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S6x16x2x128 .bf16 := Memref.whole cc1_scratch0

/-- The pipeline's invariant with the scratch operands as memrefs owned at some contents (`Gen.scopedRest1_eq`,
    `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs; the pieces are
    the witness that run finds (assigned when `iexact` hands the buffer to the continuation). -/
noncomputable def kernelRun1_A (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole)
    (x0 : Vec F S6x20x256 .f32) (x1 : Vec F S3x256x256 .bf16) (x2 : Vec F S20x32x1024 .i8) :
    { L3 : List (View.Piece (Elt F) S6x32768 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ d, owns (c : Thread nD τ) arg5 fullShare d)) -∗ K ⟨⟩))
          ⊢ wp frame (wpE (defs₀ (F := F)) Variants.none c none) E (cc1_adc i arg1 harg1 arg2 harg2 arg3 harg3 arg4 harg4 arg5 harg5) K } := by
  refine ⟨?_, fun E K => ?run⟩
  case run =>
    simp only [cc1_adc_eq_skeleton]; unfold cc1_adc_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _, _; isplitr; swap; · iexact HS0
    ipureintro; rfl

/-- The run's pieces for output 3 tile its block (256 stores of `S6x128`, checked by the kernel's evaluation: `Piece.tiledL`, linear in the pieces, through a loop's `@[irreducible]` trip theorem too), so they cover it. -/
theorem cover1_A_3 (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole)
    (x0 : Vec F S6x20x256 .f32) (x1 : Vec F S3x256x256 .bf16) (x2 : Vec F S20x32x1024 .i8) (y : S6x32768.Idx) :
    ∃ pc ∈ (kernelRun1_A c i arg1 harg1 arg2 harg2 arg3 harg3 arg4 harg4 arg5 harg5 x0 x1 x2).1, y ∈ pc.1.set :=
  View.cover_of_tiledL (kernelRun1_A c i arg1 harg1 arg2 harg2 arg3 harg3 arg4 harg4 arg5 harg5 x0 x1 x2).1 S6x128.size (by sl_kernel_rfl) y

/-- What the run leaves in output 3's staging buffer: its pieces read back over junk. -/
def out1_A_3 (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole)
    (x0 : Vec F S6x20x256 .f32) (x1 : Vec F S3x256x256 .bf16) (x2 : Vec F S20x32x1024 .i8) : Vec F S6x32768 .bf16 :=
  VO1_3.read (Elt F) (VO1_3.writes (Elt F) VO1_3.junk (kernelRun1_A c i arg1 harg1 arg2 harg2 arg3 harg3 arg4 harg4 arg5 harg5 x0 x1 x2).1)

/-! ## What the outputs hold after each point -/

/-- What the outputs' staging buffers hold after the body at point `t`: the run's contents at
    the point's memrefs and input blocks. -/
def outsAt1 (c : Dev nD) (t : Fin cfg1.N) : Vec F S6x32768 .bf16 :=
  out1_A_3 c (grid1.coords t) (ms1_0 t) (hs1_0 t) (ms1_1 t) (hs1_1 t) (ms1_2 t) (hs1_2 t) (ms1_3 t) (hs1_3 t) scM1_0 (Memref.isWhole_whole _) (iblk1 V c 0 t) (iblk1 V c 1 t) (iblk1 V c 2 t)

/-! ## The pipeline's proof data -/

/-- The proof data of pipeline 1 on core `c`: the arrays as the region finds them (`V`); after the body at
    point `t` each input's buffer at its block and the outputs' at `outsAt1`; the invariant the pipeline's
    (`ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (`BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

/-- The body at any point: the inputs' memrefs hold their blocks (`before1_W`); so the
    run applies; the invariant hands the body its scratch buffers at some contents (and the generator register) and takes them back at some contents (`PhiA_eq`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  rw [show (dat1 V c).Φ t.castSucc = Pipeline.ΦA spec1 c from rfl, PhiA1_eq]
  unfold outsAt1
  unfold out1_A_3
  iintro ⟨⟨⟨HR0, HR1, HR2, HS0⟩, Hg⟩, Ho, ⟨%d0, H0⟩, ⟨%d1, H1⟩, ⟨%d2, H2⟩, ⟨%d3, H3⟩⟩
  iapply ((kernelRun1_A c (grid1.coords t) _ _ _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HR0 HR1 HR2 HS0 Hg]
  · isplitl [HR0 HR1 HR2 HS0]
    · isplitl [HR0]
      · iexact HR0
      isplitl [HR1]
      · iexact HR1
      isplitl [HR2]
      · iexact HR2
      iexact HS0
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1_A_3 c _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (`triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.RunI.lean ====
/-
The run of the whole program (KernelIdeal): host operations, the `lut` call, host operations, the `adc` call.

`W0` … `W22` are the buffers' contents at the boundaries between these items. `run_all` says that every execution ends
with every unscoped buffer at `W22`; `frame`, that the arguments end as they began, is read off it.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.LutI
public import proofs.«01_k».proof.Proof.AdcI
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # The run: @main's segments from the launch to the return (`θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (`after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_v4]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v6, main_v7, main_c]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v8]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_v9, main_c_0]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

/-- No operation of `hostOps1_3` allocates a buffer. -/
theorem hostOps1_3_fresh : (hostOps1_3 : List (HloOp τ sig (Elt F))).Forall fun op => op.fresh = ∅ := by
  simp only [List.Forall]; repeat' constructor
/-- The reference each operation of `hostOps1_3` writes, in order. -/
abbrev hostOps1_3_W : List (Ref sig .tc) := [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v10]
theorem hostOps1_3_writes : (hostOps1_3 : List (HloOp τ sig (Elt F))).Forall fun op => op.writes ⊆ (hostOps1_3_W.map (Proc.devRef (τ := τ) .tc)).toFinset :=
  StableHlo.forall_writes_sub_of_map rfl
/-- `hostOps1_3` writes none of the argument arrays (checked: each argument against each reference it writes). -/
theorem hostOps1_3_args : ∀ a ∈ argRefs, a ∉ hostOps1_3_W := ListAll.forall_mem_of_all_decide (by decide +kernel)

/-- No operation of `hostOps1_4` allocates a buffer. -/
theorem hostOps1_4_fresh : (hostOps1_4 : List (HloOp τ sig (Elt F))).Forall fun op => op.fresh = ∅ := by
  simp only [List.Forall]; repeat' constructor
/-- The reference each operation of `hostOps1_4` writes, in order. -/
abbrev hostOps1_4_W : List (Ref sig .tc) := [main_c_1]
theorem hostOps1_4_writes : (hostOps1_4 : List (HloOp τ sig (Elt F))).Forall fun op => op.writes ⊆ (hostOps1_4_W.map (Proc.devRef (τ := τ) .tc)).toFinset :=
  StableHlo.forall_writes_sub_of_map rfl
/-- `hostOps1_4` writes none of the argument arrays (checked: each argument against each reference it writes). -/
theorem hostOps1_4_args : ∀ a ∈ argRefs, a ∉ hostOps1_4_W := ListAll.forall_mem_of_all_decide (by decide +kernel)

/-- No operation of `hostOps1_5` allocates a buffer. -/
theorem hostOps1_5_fresh : (hostOps1_5 : List (HloOp τ sig (Elt F))).Forall fun op => op.fresh = ∅ := by
  simp only [List.Forall]; repeat' constructor
/-- The reference each operation of `hostOps1_5` writes, in order. -/
abbrev hostOps1_5_W : List (Ref sig .tc) := [main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v11]
theorem hostOps1_5_writes : (hostOps1_5 : List (HloOp τ sig (Elt F))).Forall fun op => op.writes ⊆ (hostOps1_5_W.map (Proc.devRef (τ := τ) .tc)).toFinset :=
  StableHlo.forall_writes_sub_of_map rfl
/-- `hostOps1_5` writes none of the argument arrays (checked: each argument against each reference it writes). -/
theorem hostOps1_5_args : ∀ a ∈ argRefs, a ∉ hostOps1_5_W := ListAll.forall_mem_of_all_decide (by decide +kernel)

/-- No operation of `hostOps1_6` allocates a buffer. -/
theorem hostOps1_6_fresh : (hostOps1_6 : List (HloOp τ sig (Elt F))).Forall fun op => op.fresh = ∅ := by
  simp only [List.Forall]; repeat' constructor
/-- The reference each operation of `hostOps1_6` writes, in order. -/
abbrev hostOps1_6_W : List (Ref sig .tc) := [main_v12, main_v13, main_v14, main_v15, main_c_2]
theorem hostOps1_6_writes : (hostOps1_6 : List (HloOp τ sig (Elt F))).Forall fun op => op.writes ⊆ (hostOps1_6_W.map (Proc.devRef (τ := τ) .tc)).toFinset :=
  StableHlo.forall_writes_sub_of_map rfl
/-- `hostOps1_6` writes none of the argument arrays (checked: each argument against each reference it writes). -/
theorem hostOps1_6_args : ∀ a ∈ argRefs, a ∉ hostOps1_6_W := ListAll.forall_mem_of_all_decide (by decide +kernel)

/-- No operation of `hostOps1_7` allocates a buffer. -/
theorem hostOps1_7_fresh : (hostOps1_7 : List (HloOp τ sig (Elt F))).Forall fun op => op.fresh = ∅ := by
  simp only [List.Forall]; repeat' constructor
/-- The reference each operation of `hostOps1_7` writes, in order. -/
abbrev hostOps1_7_W : List (Ref sig .tc) := [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v16]
theorem hostOps1_7_writes : (hostOps1_7 : List (HloOp τ sig (Elt F))).Forall fun op => op.writes ⊆ (hostOps1_7_W.map (Proc.devRef (τ := τ) .tc)).toFinset :=
  StableHlo.forall_writes_sub_of_map rfl
/-- `hostOps1_7` writes none of the argument arrays (checked: each argument against each reference it writes). -/
theorem hostOps1_7_args : ∀ a ∈ argRefs, a ∉ hostOps1_7_W := ListAll.forall_mem_of_all_decide (by decide +kernel)

/-- No operation of `hostOps1_8` allocates a buffer. -/
theorem hostOps1_8_fresh : (hostOps1_8 : List (HloOp τ sig (Elt F))).Forall fun op => op.fresh = ∅ := by
  simp only [List.Forall]; repeat' constructor
/-- The reference each operation of `hostOps1_8` writes, in order. -/
abbrev hostOps1_8_W : List (Ref sig .tc) := [main_v17, main_c_3]
theorem hostOps1_8_writes : (hostOps1_8 : List (HloOp τ sig (Elt F))).Forall fun op => op.writes ⊆ (hostOps1_8_W.map (Proc.devRef (τ := τ) .tc)).toFinset :=
  StableHlo.forall_writes_sub_of_map rfl
/-- `hostOps1_8` writes none of the argument arrays (checked: each argument against each reference it writes). -/
theorem hostOps1_8_args : ∀ a ∈ argRefs, a ∉ hostOps1_8_W := ListAll.forall_mem_of_all_decide (by decide +kernel)

/-- No operation of `hostOps1_9` allocates a buffer. -/
theorem hostOps1_9_fresh : (hostOps1_9 : List (HloOp τ sig (Elt F))).Forall fun op => op.fresh = ∅ := by
  simp only [List.Forall]; repeat' constructor
/-- The reference each operation of `hostOps1_9` writes, in order. -/
abbrev hostOps1_9_W : List (Ref sig .tc) := [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v18]
theorem hostOps1_9_writes : (hostOps1_9 : List (HloOp τ sig (Elt F))).Forall fun op => op.writes ⊆ (hostOps1_9_W.map (Proc.devRef (τ := τ) .tc)).toFinset :=
  StableHlo.forall_writes_sub_of_map rfl
/-- `hostOps1_9` writes none of the argument arrays (checked: each argument against each reference it writes). -/
theorem hostOps1_9_args : ∀ a ∈ argRefs, a ∉ hostOps1_9_W := ListAll.forall_mem_of_all_decide (by decide +kernel)

/-- No operation of `hostOps1_10` allocates a buffer. -/
theorem hostOps1_10_fresh : (hostOps1_10 : List (HloOp τ sig (Elt F))).Forall fun op => op.fresh = ∅ := by
  simp only [List.Forall]; repeat' constructor
/-- The reference each operation of `hostOps1_10` writes, in order. -/
abbrev hostOps1_10_W : List (Ref sig .tc) := [main_c_4, main_v19, main_v20, main_v21, main_v22, main_v23, main_v24, main_v25, main_c_5]
theorem hostOps1_10_writes : (hostOps1_10 : List (HloOp τ sig (Elt F))).Forall fun op => op.writes ⊆ (hostOps1_10_W.map (Proc.devRef (τ := τ) .tc)).toFinset :=
  StableHlo.forall_writes_sub_of_map rfl
/-- `hostOps1_10` writes none of the argument arrays (checked: each argument against each reference it writes). -/
theorem hostOps1_10_args : ∀ a ∈ argRefs, a ∉ hostOps1_10_W := ListAll.forall_mem_of_all_decide (by decide +kernel)

/-- No operation of `hostOps1_11` allocates a buffer. -/
theorem hostOps1_11_fresh : (hostOps1_11 : List (HloOp τ sig (Elt F))).Forall fun op => op.fresh = ∅ := by
  simp only [List.Forall]; repeat' constructor
/-- The reference each operation of `hostOps1_11` writes, in order. -/
abbrev hostOps1_11_W : List (Ref sig .tc) := [main_call5_v0, main_call5_c, main_call5_v1, main_call5_c_0, main_call5_v2, main_call5_v3, main_call5_v4, main_call5_c_1, main_call5_v5, main_call5_v6, main_call5_c_2, main_call5_v7, main_call5_v8, main_call5_c_3, main_call5_v9, main_call5_v10, main_call5_v11, main_call5_v12, main_call5_v13, main_call5_v14, main_v26]
theorem hostOps1_11_writes : (hostOps1_11 : List (HloOp τ sig (Elt F))).Forall fun op => op.writes ⊆ (hostOps1_11_W.map (Proc.devRef (τ := τ) .tc)).toFinset :=
  StableHlo.forall_writes_sub_of_map rfl
/-- `hostOps1_11` writes none of the argument arrays (checked: each argument against each reference it writes). -/
theorem hostOps1_11_args : ∀ a ∈ argRefs, a ∉ hostOps1_11_W := ListAll.forall_mem_of_all_decide (by decide +kernel)

/-- No operation of `hostOps1_12` allocates a buffer. -/
theorem hostOps1_12_fresh : (hostOps1_12 : List (HloOp τ sig (Elt F))).Forall fun op => op.fresh = ∅ := by
  simp only [List.Forall]; repeat' constructor
/-- The reference each operation of `hostOps1_12` writes, in order. -/
abbrev hostOps1_12_W : List (Ref sig .tc) := [main_v27, main_c_6]
theorem hostOps1_12_writes : (hostOps1_12 : List (HloOp τ sig (Elt F))).Forall fun op => op.writes ⊆ (hostOps1_12_W.map (Proc.devRef (τ := τ) .tc)).toFinset :=
  StableHlo.forall_writes_sub_of_map rfl
/-- `hostOps1_12` writes none of the argument arrays (checked: each argument against each reference it writes). -/
theorem hostOps1_12_args : ∀ a ∈ argRefs, a ∉ hostOps1_12_W := ListAll.forall_mem_of_all_decide (by decide +kernel)

/-- No operation of `hostOps1_13` allocates a buffer. -/
theorem hostOps1_13_fresh : (hostOps1_13 : List (HloOp τ sig (Elt F))).Forall fun op => op.fresh = ∅ := by
  simp only [List.Forall]; repeat' constructor
/-- The reference each operation of `hostOps1_13` writes, in order. -/
abbrev hostOps1_13_W : List (Ref sig .tc) := [main_call6_v0, main_call6_v1, main_call6_v2, main_call6_v3, main_call6_v4, main_call6_v5, main_call6_v6, main_call6_v7, main_call6_v8, main_call6_c, main_call6_v9, main_call6_v10, main_call6_v11, main_call6_c_0, main_call6_v12, main_call6_v13, main_v28]
theorem hostOps1_13_writes : (hostOps1_13 : List (HloOp τ sig (Elt F))).Forall fun op => op.writes ⊆ (hostOps1_13_W.map (Proc.devRef (τ := τ) .tc)).toFinset :=
  StableHlo.forall_writes_sub_of_map rfl
/-- `hostOps1_13` writes none of the argument arrays (checked: each argument against each reference it writes). -/
theorem hostOps1_13_args : ∀ a ∈ argRefs, a ∉ hostOps1_13_W := ListAll.forall_mem_of_all_decide (by decide +kernel)

/-- No operation of `hostOps1_14` allocates a buffer. -/
theorem hostOps1_14_fresh : (hostOps1_14 : List (HloOp τ sig (Elt F))).Forall fun op => op.fresh = ∅ := by
  simp only [List.Forall]; repeat' constructor
/-- The reference each operation of `hostOps1_14` writes, in order. -/
abbrev hostOps1_14_W : List (Ref sig .tc) := [main_c_7, main_v29, main_v30, main_v31, main_v32, main_v33, main_v34, main_v35, main_c_8]
theorem hostOps1_14_writes : (hostOps1_14 : List (HloOp τ sig (Elt F))).Forall fun op => op.writes ⊆ (hostOps1_14_W.map (Proc.devRef (τ := τ) .tc)).toFinset :=
  StableHlo.forall_writes_sub_of_map rfl
/-- `hostOps1_14` writes none of the argument arrays (checked: each argument against each reference it writes). -/
theorem hostOps1_14_args : ∀ a ∈ argRefs, a ∉ hostOps1_14_W := ListAll.forall_mem_of_all_decide (by decide +kernel)

/-- No operation of `hostOps1_15` allocates a buffer. -/
theorem hostOps1_15_fresh : (hostOps1_15 : List (HloOp τ sig (Elt F))).Forall fun op => op.fresh = ∅ := by
  simp only [List.Forall]; repeat' constructor
/-- The reference each operation of `hostOps1_15` writes, in order. -/
abbrev hostOps1_15_W : List (Ref sig .tc) := [main_call7_v0, main_call7_c, main_call7_v1, main_call7_c_0, main_call7_v2, main_call7_v3, main_call7_v4, main_call7_c_1, main_call7_v5, main_call7_v6, main_call7_c_2, main_call7_v7, main_call7_v8, main_call7_c_3, main_call7_v9, main_call7_v10, main_call7_v11, main_call7_v12, main_call7_v13, main_call7_v14, main_v36]
theorem hostOps1_15_writes : (hostOps1_15 : List (HloOp τ sig (Elt F))).Forall fun op => op.writes ⊆ (hostOps1_15_W.map (Proc.devRef (τ := τ) .tc)).toFinset :=
  StableHlo.forall_writes_sub_of_map rfl
/-- `hostOps1_15` writes none of the argument arrays (checked: each argument against each reference it writes). -/
theorem hostOps1_15_args : ∀ a ∈ argRefs, a ∉ hostOps1_15_W := ListAll.forall_mem_of_all_decide (by decide +kernel)

/-- No operation of `hostOps1_16` allocates a buffer. -/
theorem hostOps1_16_fresh : (hostOps1_16 : List (HloOp τ sig (Elt F))).Forall fun op => op.fresh = ∅ := by
  simp only [List.Forall]; repeat' constructor
/-- The reference each operation of `hostOps1_16` writes, in order. -/
abbrev hostOps1_16_W : List (Ref sig .tc) := [main_v37, main_c_9]
theorem hostOps1_16_writes : (hostOps1_16 : List (HloOp τ sig (Elt F))).Forall fun op => op.writes ⊆ (hostOps1_16_W.map (Proc.devRef (τ := τ) .tc)).toFinset :=
  StableHlo.forall_writes_sub_of_map rfl
/-- `hostOps1_16` writes none of the argument arrays (checked: each argument against each reference it writes). -/
theorem hostOps1_16_args : ∀ a ∈ argRefs, a ∉ hostOps1_16_W := ListAll.forall_mem_of_all_decide (by decide +kernel)

/-- No operation of `hostOps1_17` allocates a buffer. -/
theorem hostOps1_17_fresh : (hostOps1_17 : List (HloOp τ sig (Elt F))).Forall fun op => op.fresh = ∅ := by
  simp only [List.Forall]; repeat' constructor
/-- The reference each operation of `hostOps1_17` writes, in order. -/
abbrev hostOps1_17_W : List (Ref sig .tc) := [main_call8_v0, main_call8_v1, main_call8_v2, main_call8_v3, main_call8_v4, main_call8_v5, main_call8_v6, main_call8_v7, main_call8_v8, main_call8_c, main_call8_v9, main_call8_v10, main_call8_v11, main_call8_c_0, main_call8_v12, main_call8_v13, main_v38]
theorem hostOps1_17_writes : (hostOps1_17 : List (HloOp τ sig (Elt F))).Forall fun op => op.writes ⊆ (hostOps1_17_W.map (Proc.devRef (τ := τ) .tc)).toFinset :=
  StableHlo.forall_writes_sub_of_map rfl
/-- `hostOps1_17` writes none of the argument arrays (checked: each argument against each reference it writes). -/
theorem hostOps1_17_args : ∀ a ∈ argRefs, a ∉ hostOps1_17_W := ListAll.forall_mem_of_all_decide (by decide +kernel)

/-- No operation of `hostOps1_18` allocates a buffer. -/
theorem hostOps1_18_fresh : (hostOps1_18 : List (HloOp τ sig (Elt F))).Forall fun op => op.fresh = ∅ := by
  simp only [List.Forall]; repeat' constructor
/-- The reference each operation of `hostOps1_18` writes, in order. -/
abbrev hostOps1_18_W : List (Ref sig .tc) := [main_c_10, main_v39, main_v40, main_v41, main_v42, main_v43, main_v44, main_v45, main_v46, main_v47, main_v48, main_v49, main_v50, main_v51]
theorem hostOps1_18_writes : (hostOps1_18 : List (HloOp τ sig (Elt F))).Forall fun op => op.writes ⊆ (hostOps1_18_W.map (Proc.devRef (τ := τ) .tc)).toFinset :=
  StableHlo.forall_writes_sub_of_map rfl
/-- `hostOps1_18` writes none of the argument arrays (checked: each argument against each reference it writes). -/
theorem hostOps1_18_args : ∀ a ∈ argRefs, a ∉ hostOps1_18_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (`withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`. -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- After `hostOps1_1`. -/
abbrev W4 : Dev nD → Valuation τ sig (Elt F) := fun c => StableHlo.after hostOps1_1 (W3 m ρ c)
/-- A reference `hostOps1_1` does not write keeps its contents across it. -/
theorem W4_of (c : Dev nD) (r : Ref sig .tc) (h : r ∉ hostOps1_1_W) : W4 m ρ c (Proc.devRef .tc r) = W3 m ρ c (Proc.devRef .tc r) :=
  StableHlo.after_of_writes_sub hostOps1_1 _ hostOps1_1_writes h
theorem W4_args (c : Dev nD) : ∀ a ∈ argRefs, W4 m ρ c (Proc.devRef .tc a) = m ((c : Thread nD τ).loc a) :=
  fun a ha => (W4_of m ρ c a (hostOps1_1_args a ha)).trans (W3_args m ρ c a ha)
/-- After `hostOps1_2`. -/
abbrev W5 : Dev nD → Valuation τ sig (Elt F) := fun c => StableHlo.after hostOps1_2 (W4 m ρ c)
/-- A reference `hostOps1_2` does not write keeps its contents across it. -/
theorem W5_of (c : Dev nD) (r : Ref sig .tc) (h : r ∉ hostOps1_2_W) : W5 m ρ c (Proc.devRef .tc r) = W4 m ρ c (Proc.devRef .tc r) :=
  StableHlo.after_of_writes_sub hostOps1_2 _ hostOps1_2_writes h
theorem W5_args (c : Dev nD) : ∀ a ∈ argRefs, W5 m ρ c (Proc.devRef .tc a) = m ((c : Thread nD τ).loc a) :=
  fun a ha => (W5_of m ρ c a (hostOps1_2_args a ha)).trans (W4_args m ρ c a ha)
/-- After `hostOps1_3`. -/
abbrev W6 : Dev nD → Valuation τ sig (Elt F) := fun c => StableHlo.after hostOps1_3 (W5 m ρ c)
/-- A reference `hostOps1_3` does not write keeps its contents across it. -/
theorem W6_of (c : Dev nD) (r : Ref sig .tc) (h : r ∉ hostOps1_3_W) : W6 m ρ c (Proc.devRef .tc r) = W5 m ρ c (Proc.devRef .tc r) :=
  StableHlo.after_of_writes_sub hostOps1_3 _ hostOps1_3_writes h
theorem W6_args (c : Dev nD) : ∀ a ∈ argRefs, W6 m ρ c (Proc.devRef .tc a) = m ((c : Thread nD τ).loc a) :=
  fun a ha => (W6_of m ρ c a (hostOps1_3_args a ha)).trans (W5_args m ρ c a ha)
/-- After `hostOps1_4`. -/
abbrev W7 : Dev nD → Valuation τ sig (Elt F) := fun c => StableHlo.after hostOps1_4 (W6 m ρ c)
/-- A reference `hostOps1_4` does not write keeps its contents across it. -/
theorem W7_of (c : Dev nD) (r : Ref sig .tc) (h : r ∉ hostOps1_4_W) : W7 m ρ c (Proc.devRef .tc r) = W6 m ρ c (Proc.devRef .tc r) :=
  StableHlo.after_of_writes_sub hostOps1_4 _ hostOps1_4_writes h
theorem W7_args (c : Dev nD) : ∀ a ∈ argRefs, W7 m ρ c (Proc.devRef .tc a) = m ((c : Thread nD τ).loc a) :=
  fun a ha => (W7_of m ρ c a (hostOps1_4_args a ha)).trans (W6_args m ρ c a ha)
/-- After `hostOps1_5`. -/
abbrev W8 : Dev nD → Valuation τ sig (Elt F) := fun c => StableHlo.after hostOps1_5 (W7 m ρ c)
/-- A reference `hostOps1_5` does not write keeps its contents across it. -/
theorem W8_of (c : Dev nD) (r : Ref sig .tc) (h : r ∉ hostOps1_5_W) : W8 m ρ c (Proc.devRef .tc r) = W7 m ρ c (Proc.devRef .tc r) :=
  StableHlo.after_of_writes_sub hostOps1_5 _ hostOps1_5_writes h
theorem W8_args (c : Dev nD) : ∀ a ∈ argRefs, W8 m ρ c (Proc.devRef .tc a) = m ((c : Thread nD τ).loc a) :=
  fun a ha => (W8_of m ρ c a (hostOps1_5_args a ha)).trans (W7_args m ρ c a ha)
/-- After `hostOps1_6`. -/
abbrev W9 : Dev nD → Valuation τ sig (Elt F) := fun c => StableHlo.after hostOps1_6 (W8 m ρ c)
/-- A reference `hostOps1_6` does not write keeps its contents across it. -/
theorem W9_of (c : Dev nD) (r : Ref sig .tc) (h : r ∉ hostOps1_6_W) : W9 m ρ c (Proc.devRef .tc r) = W8 m ρ c (Proc.devRef .tc r) :=
  StableHlo.after_of_writes_sub hostOps1_6 _ hostOps1_6_writes h
theorem W9_args (c : Dev nD) : ∀ a ∈ argRefs, W9 m ρ c (Proc.devRef .tc a) = m ((c : Thread nD τ).loc a) :=
  fun a ha => (W9_of m ρ c a (hostOps1_6_args a ha)).trans (W8_args m ρ c a ha)
/-- After `hostOps1_7`. -/
abbrev W10 : Dev nD → Valuation τ sig (Elt F) := fun c => StableHlo.after hostOps1_7 (W9 m ρ c)
/-- A reference `hostOps1_7` does not write keeps its contents across it. -/
theorem W10_of (c : Dev nD) (r : Ref sig .tc) (h : r ∉ hostOps1_7_W) : W10 m ρ c (Proc.devRef .tc r) = W9 m ρ c (Proc.devRef .tc r) :=
  StableHlo.after_of_writes_sub hostOps1_7 _ hostOps1_7_writes h
theorem W10_args (c : Dev nD) : ∀ a ∈ argRefs, W10 m ρ c (Proc.devRef .tc a) = m ((c : Thread nD τ).loc a) :=
  fun a ha => (W10_of m ρ c a (hostOps1_7_args a ha)).trans (W9_args m ρ c a ha)
/-- After `hostOps1_8`. -/
abbrev W11 : Dev nD → Valuation τ sig (Elt F) := fun c => StableHlo.after hostOps1_8 (W10 m ρ c)
/-- A reference `hostOps1_8` does not write keeps its contents across it. -/
theorem W11_of (c : Dev nD) (r : Ref sig .tc) (h : r ∉ hostOps1_8_W) : W11 m ρ c (Proc.devRef .tc r) = W10 m ρ c (Proc.devRef .tc r) :=
  StableHlo.after_of_writes_sub hostOps1_8 _ hostOps1_8_writes h
theorem W11_args (c : Dev nD) : ∀ a ∈ argRefs, W11 m ρ c (Proc.devRef .tc a) = m ((c : Thread nD τ).loc a) :=
  fun a ha => (W11_of m ρ c a (hostOps1_8_args a ha)).trans (W10_args m ρ c a ha)
/-- After `hostOps1_9`. -/
abbrev W12 : Dev nD → Valuation τ sig (Elt F) := fun c => StableHlo.after hostOps1_9 (W11 m ρ c)
/-- A reference `hostOps1_9` does not write keeps its contents across it. -/
theorem W12_of (c : Dev nD) (r : Ref sig .tc) (h : r ∉ hostOps1_9_W) : W12 m ρ c (Proc.devRef .tc r) = W11 m ρ c (Proc.devRef .tc r) :=
  StableHlo.after_of_writes_sub hostOps1_9 _ hostOps1_9_writes h
theorem W12_args (c : Dev nD) : ∀ a ∈ argRefs, W12 m ρ c (Proc.devRef .tc a) = m ((c : Thread nD τ).loc a) :=
  fun a ha => (W12_of m ρ c a (hostOps1_9_args a ha)).trans (W11_args m ρ c a ha)
/-- After `hostOps1_10`. -/
abbrev W13 : Dev nD → Valuation τ sig (Elt F) := fun c => StableHlo.after hostOps1_10 (W12 m ρ c)
/-- A reference `hostOps1_10` does not write keeps its contents across it. -/
theorem W13_of (c : Dev nD) (r : Ref sig .tc) (h : r ∉ hostOps1_10_W) : W13 m ρ c (Proc.devRef .tc r) = W12 m ρ c (Proc.devRef .tc r) :=
  StableHlo.after_of_writes_sub hostOps1_10 _ hostOps1_10_writes h
theorem W13_args (c : Dev nD) : ∀ a ∈ argRefs, W13 m ρ c (Proc.devRef .tc a) = m ((c : Thread nD τ).loc a) :=
  fun a ha => (W13_of m ρ c a (hostOps1_10_args a ha)).trans (W12_args m ρ c a ha)
/-- After `hostOps1_11`. -/
abbrev W14 : Dev nD → Valuation τ sig (Elt F) := fun c => StableHlo.after hostOps1_11 (W13 m ρ c)
/-- A reference `hostOps1_11` does not write keeps its contents across it. -/
theorem W14_of (c : Dev nD) (r : Ref sig .tc) (h : r ∉ hostOps1_11_W) : W14 m ρ c (Proc.devRef .tc r) = W13 m ρ c (Proc.devRef .tc r) :=
  StableHlo.after_of_writes_sub hostOps1_11 _ hostOps1_11_writes h
theorem W14_args (c : Dev nD) : ∀ a ∈ argRefs, W14 m ρ c (Proc.devRef .tc a) = m ((c : Thread nD τ).loc a) :=
  fun a ha => (W14_of m ρ c a (hostOps1_11_args a ha)).trans (W13_args m ρ c a ha)
/-- After `hostOps1_12`. -/
abbrev W15 : Dev nD → Valuation τ sig (Elt F) := fun c => StableHlo.after hostOps1_12 (W14 m ρ c)
/-- A reference `hostOps1_12` does not write keeps its contents across it. -/
theorem W15_of (c : Dev nD) (r : Ref sig .tc) (h : r ∉ hostOps1_12_W) : W15 m ρ c (Proc.devRef .tc r) = W14 m ρ c (Proc.devRef .tc r) :=
  StableHlo.after_of_writes_sub hostOps1_12 _ hostOps1_12_writes h
theorem W15_args (c : Dev nD) : ∀ a ∈ argRefs, W15 m ρ c (Proc.devRef .tc a) = m ((c : Thread nD τ).loc a) :=
  fun a ha => (W15_of m ρ c a (hostOps1_12_args a ha)).trans (W14_args m ρ c a ha)
/-- After `hostOps1_13`. -/
abbrev W16 : Dev nD → Valuation τ sig (Elt F) := fun c => StableHlo.after hostOps1_13 (W15 m ρ c)
/-- A reference `hostOps1_13` does not write keeps its contents across it. -/
theorem W16_of (c : Dev nD) (r : Ref sig .tc) (h : r ∉ hostOps1_13_W) : W16 m ρ c (Proc.devRef .tc r) = W15 m ρ c (Proc.devRef .tc r) :=
  StableHlo.after_of_writes_sub hostOps1_13 _ hostOps1_13_writes h
theorem W16_args (c : Dev nD) : ∀ a ∈ argRefs, W16 m ρ c (Proc.devRef .tc a) = m ((c : Thread nD τ).loc a) :=
  fun a ha => (W16_of m ρ c a (hostOps1_13_args a ha)).trans (W15_args m ρ c a ha)
/-- After `hostOps1_14`. -/
abbrev W17 : Dev nD → Valuation τ sig (Elt F) := fun c => StableHlo.after hostOps1_14 (W16 m ρ c)
/-- A reference `hostOps1_14` does not write keeps its contents across it. -/
theorem W17_of (c : Dev nD) (r : Ref sig .tc) (h : r ∉ hostOps1_14_W) : W17 m ρ c (Proc.devRef .tc r) = W16 m ρ c (Proc.devRef .tc r) :=
  StableHlo.after_of_writes_sub hostOps1_14 _ hostOps1_14_writes h
theorem W17_args (c : Dev nD) : ∀ a ∈ argRefs, W17 m ρ c (Proc.devRef .tc a) = m ((c : Thread nD τ).loc a) :=
  fun a ha => (W17_of m ρ c a (hostOps1_14_args a ha)).trans (W16_args m ρ c a ha)
/-- After `hostOps1_15`. -/
abbrev W18 : Dev nD → Valuation τ sig (Elt F) := fun c => StableHlo.after hostOps1_15 (W17 m ρ c)
/-- A reference `hostOps1_15` does not write keeps its contents across it. -/
theorem W18_of (c : Dev nD) (r : Ref sig .tc) (h : r ∉ hostOps1_15_W) : W18 m ρ c (Proc.devRef .tc r) = W17 m ρ c (Proc.devRef .tc r) :=
  StableHlo.after_of_writes_sub hostOps1_15 _ hostOps1_15_writes h
theorem W18_args (c : Dev nD) : ∀ a ∈ argRefs, W18 m ρ c (Proc.devRef .tc a) = m ((c : Thread nD τ).loc a) :=
  fun a ha => (W18_of m ρ c a (hostOps1_15_args a ha)).trans (W17_args m ρ c a ha)
/-- After `hostOps1_16`. -/
abbrev W19 : Dev nD → Valuation τ sig (Elt F) := fun c => StableHlo.after hostOps1_16 (W18 m ρ c)
/-- A reference `hostOps1_16` does not write keeps its contents across it. -/
theorem W19_of (c : Dev nD) (r : Ref sig .tc) (h : r ∉ hostOps1_16_W) : W19 m ρ c (Proc.devRef .tc r) = W18 m ρ c (Proc.devRef .tc r) :=
  StableHlo.after_of_writes_sub hostOps1_16 _ hostOps1_16_writes h
theorem W19_args (c : Dev nD) : ∀ a ∈ argRefs, W19 m ρ c (Proc.devRef .tc a) = m ((c : Thread nD τ).loc a) :=
  fun a ha => (W19_of m ρ c a (hostOps1_16_args a ha)).trans (W18_args m ρ c a ha)
/-- After `hostOps1_17`. -/
abbrev W20 : Dev nD → Valuation τ sig (Elt F) := fun c => StableHlo.after hostOps1_17 (W19 m ρ c)
/-- A reference `hostOps1_17` does not write keeps its contents across it. -/
theorem W20_of (c : Dev nD) (r : Ref sig .tc) (h : r ∉ hostOps1_17_W) : W20 m ρ c (Proc.devRef .tc r) = W19 m ρ c (Proc.devRef .tc r) :=
  StableHlo.after_of_writes_sub hostOps1_17 _ hostOps1_17_writes h
theorem W20_args (c : Dev nD) : ∀ a ∈ argRefs, W20 m ρ c (Proc.devRef .tc a) = m ((c : Thread nD τ).loc a) :=
  fun a ha => (W20_of m ρ c a (hostOps1_17_args a ha)).trans (W19_args m ρ c a ha)
/-- After `hostOps1_18` (region 1's entry). -/
abbrev W21 : Dev nD → Valuation τ sig (Elt F) := fun c => StableHlo.after hostOps1_18 (W20 m ρ c)
/-- A reference `hostOps1_18` does not write keeps its contents across it. -/
theorem W21_of (c : Dev nD) (r : Ref sig .tc) (h : r ∉ hostOps1_18_W) : W21 m ρ c (Proc.devRef .tc r) = W20 m ρ c (Proc.devRef .tc r) :=
  StableHlo.after_of_writes_sub hostOps1_18 _ hostOps1_18_writes h
theorem W21_args (c : Dev nD) : ∀ a ∈ argRefs, W21 m ρ c (Proc.devRef .tc a) = m ((c : Thread nD τ).loc a) :=
  fun a ha => (W21_of m ρ c a (hostOps1_18_args a ha)).trans (W20_args m ρ c a ha)
/-- The same read at the TensorCore's references (what region 1's proof data take). -/
abbrev V21 : (c : Dev nD) → (b : Ref sig .tc) → Buf (Elt F) ((c : Thread nD τ).loc b) := fun c b => W21 m ρ c b
/-- At region 1's exit: its arrays at what the pipeline leaves (the inputs as entered, each output's write-backs
    folded: `Dat.arrAt … N`), every other buffer as entered (`withArrays`). -/
def W22 (c : Dev nD) : Valuation τ sig (Elt F) :=
  Pipeline.withArrays spec1 c (W21 m ρ c) fun w => (dat1 (V21 m ρ) c).arrAt w cfg1.N
theorem W22_arr (c : Dev nD) (w : Fin cfg1.W) :
    W22 m ρ c (Proc.devRef .tc (Pipeline.arrRef spec1 w)) = (dat1 (V21 m ρ) c).arrAt w cfg1.N := by
  unfold W22; exact Pipeline.withArrays_arr spec1 launch1.win.arr_inj c _ _ w
theorem W22_of_ne (c : Dev nD) (b : Ref sig .tc) (hb : ∀ w, Pipeline.arrRef spec1 w ≠ b) :
    W22 m ρ c (Proc.devRef .tc b) = W21 m ρ c (Proc.devRef .tc b) := by
  unfold W22; exact Pipeline.withArrays_of_ne spec1 c _ _ b hb
/-- A reference that is none of region 1's OUTPUT arrays keeps its entry contents across it: an input window's
    array is never written back (`Dat.arrAt_in`, `A_eq1`); any other buffer is left as is. -/
theorem W22_of (c : Dev nD) (r : Ref sig .tc) (h : ∀ w : Fin cfg1.W, Pipeline.arrRef spec1 w = r → (cfg1.win w).isOut = false) :
    W22 m ρ c (Proc.devRef .tc r) = W21 m ρ c (Proc.devRef .tc r) := by
  by_cases hw : ∃ w : Fin cfg1.W, Pipeline.arrRef spec1 w = r
  · obtain ⟨w, rfl⟩ := hw
    exact (W22_arr m ρ c w).trans (((dat1 (V21 m ρ) c).arrAt_in w (h w rfl) _).trans (A_eq1 (V21 m ρ) c w))
  · exact W22_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W22_args (c : Dev nD) : ∀ a ∈ argRefs, W22 m ρ c (Proc.devRef .tc a) = m ((c : Thread nD τ).loc a) :=
  fun a ha => (W22_of m ρ c a (argsIn1 a ha)).trans (W21_args m ρ c a ha)
/-- The same read at the TensorCore's references (region 1's exit contents). -/
abbrev V22 : (c : Dev nD) → (b : Ref sig .tc) → Buf (Elt F) ((c : Thread nD τ).loc b) := fun c b => W22 m ρ c b
/-- At region 1's exit each of its arrays holds what the pipeline leaves (`hF1`) and every other buffer what it
    held at entry (`hrest1`): the two hypotheses of `unscopedBufs_of_arrays`. -/
theorem hF1 (c : Dev nD) (w : Fin cfg1.W) : (dat1 (V21 m ρ) c).arrAt w cfg1.N = V22 m ρ c (Pipeline.arrRef spec1 w) :=
  (W22_arr m ρ c w).symm
theorem hrest1 (c : Dev nD) : ∀ b, b ∉ Finset.univ.image (Pipeline.arrRef spec1) → V22 m ρ c b = V21 m ρ c b :=
  fun b hb => W22_of_ne m ρ c b fun w e => hb (Finset.mem_image.mpr ⟨w, Finset.mem_univ _, e⟩)

/-! ### The arguments end as launched: no host stretch writes one and no region may change one (a region reads it
    through an input window or bypasses it) -/

theorem W22_main_arg0 (c : Dev nD) : W22 m ρ c (Proc.devRef .tc main_arg0) = m ((c : Thread nD τ).loc main_arg0) :=
  W22_args m ρ c main_arg0 (by decide)
theorem W22_main_arg1 (c : Dev nD) : W22 m ρ c (Proc.devRef .tc main_arg1) = m ((c : Thread nD τ).loc main_arg1) :=
  W22_args m ρ c main_arg1 (by decide)
theorem W22_main_arg2 (c : Dev nD) : W22 m ρ c (Proc.devRef .tc main_arg2) = m ((c : Thread nD τ).loc main_arg2) :=
  W22_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the library's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V21 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (a pipeline's
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the library's chain ends at it BESIDE the core owing nothing): every unscoped
    buffer at the last boundary's contents `W22`, the generator register at some state. -/
abbrev Tₙ (c : Dev nD) : sProp 𝕄 := iprop(StableHlo.held (c : Thread nD τ) (Pipeline.ucRefs τ sig) (W22 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W21`, left at `W22`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V21 m ρ) c).loose
  hwaits := Pipeline.hwaits_of_owed_zero _ _ _ _ L lv 1 fun _ _ => rfl
  pre c := iprop(StableHlo.held (c : Thread nD τ) (Pipeline.ucRefs τ sig) (W21 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V21 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V21 m ρ c) (A_eq1 (V21 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V21 m ρ c) (V22 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 22 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .host (hseg hostOps1_5 hostOps1_5_sub hostOps1_5_fresh (W7 m ρ)),
    .host (hseg hostOps1_6 hostOps1_6_sub hostOps1_6_fresh (W8 m ρ)),
    .host (hseg hostOps1_7 hostOps1_7_sub hostOps1_7_fresh (W9 m ρ)),
    .host (hseg hostOps1_8 hostOps1_8_sub hostOps1_8_fresh (W10 m ρ)),
    .host (hseg hostOps1_9 hostOps1_9_sub hostOps1_9_fresh (W11 m ρ)),
    .host (hseg hostOps1_10 hostOps1_10_sub hostOps1_10_fresh (W12 m ρ)),
    .host (hseg hostOps1_11 hostOps1_11_sub hostOps1_11_fresh (W13 m ρ)),
    .host (hseg hostOps1_12 hostOps1_12_sub hostOps1_12_fresh (W14 m ρ)),
    .host (hseg hostOps1_13 hostOps1_13_sub hostOps1_13_fresh (W15 m ρ)),
    .host (hseg hostOps1_14 hostOps1_14_sub hostOps1_14_fresh (W16 m ρ)),
    .host (hseg hostOps1_15 hostOps1_15_sub hostOps1_15_fresh (W17 m ρ)),
    .host (hseg hostOps1_16 hostOps1_16_sub hostOps1_16_fresh (W18 m ρ)),
    .host (hseg hostOps1_17 hostOps1_17_sub hostOps1_17_fresh (W19 m ρ)),
    .host (hseg hostOps1_18 hostOps1_18_sub hostOps1_18_fresh (W20 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: from any memory with zero counters every fair execution terminates without fault, with every unscoped
    buffer at the last boundary's contents and every semaphore counter at zero. -/
theorem run_all : θ_run defs (onTc (τ := τ) (main (F := F))) ⟨m, fun _ => 0, ρ⟩ (fun r => (∀ c : Dev nD, ∀ b : Ref sig .tc,
      ¬ (Proc.devRef .tc b : DevRef τ sig).isScoped → r.2.mem ((c.tc : Thread nD τ).loc b) = W22 m ρ c (Proc.devRef .tc b))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h hz => ⟨fun c b hb => h c _ (mem_uc b hb), funext fun g => hz g (.inr (no_unscoped g.2))⟩)

/-- The frame: the argument arrays end as they began, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
      ⟨(h.1 c main_arg0 (by decide)).trans (W22_main_arg0 m ρ c),
       (h.1 c main_arg1 (by decide)).trans (W22_main_arg1 m ρ c),
       (h.1 c main_arg2 (by decide)).trans (W22_main_arg2 m ρ c)⟩, h.2⟩) (run_all m ρ)

end Cert.KernelIdeal.Gen

end
-- ==== Proof.LutValI.lean ====
/-
The `lut` body's block of distances in closed form (KernelIdeal): entry `(b, m, k)` is the sum over the ten dimensions of the
squared differences of query `b`'s and code `k`'s coordinates.
-/
module

public import proofs.«01_k».proof.Proof.LutI
public import Idealize.ShloMosaic.Lib.Tactic
public import Idealize.ShloMosaic.Lib.ValueIdx
public import Idealize.ShloMosaic.Lib.Pipeline.Value

@[expose] public section

set_option maxRecDepth 8192

noncomputable section

namespace Cert.KernelIdeal.Gen

open Idealize.ShloMosaic Idealize.ShloMosaic.TcCoe Idealize.ShloMosaic.Tactic

/-- Query `b`'s coordinates of dimension `d` lie in the array. -/
theorem inb_query : ∀ (b : Fin 6) (d : Fin 10), ∀ a, (![d.val, b.val, 0, 0] : Fin 4 → ℕ) a + S1x1x20x1.size a ≤ S10x6x20x1.size a := by decide
/-- The codes' coordinates of dimension `d` lie in the array. -/
theorem inb_codes : ∀ (d : Fin 10), ∀ a, (![d.val, 0, 0] : Fin 3 → ℕ) a + S1x20x256.size a ≤ S10x20x256.size a := by decide

section Float

variable {F : FTy → Type} [FloatOps F]
variable (x0 : Vec F S10x6x20x1 .f32) (x1 : Vec F S10x20x256 .f32)

/-- The differences of query `b` and the codes in dimension `d`. -/
def diffOf (b : Fin 6) (d : Fin 10) : FVec F S20x256 .f32 :=
  subf
    (broadcastTo S20x256 (shapeCast S20x1 (View.ld x0 (Rect.unit (s := S10x6x20x1) ![d.val, b.val, 0, 0] S1x1x20x1.size (inb_query b d))) shapeCasts_S1x1x20x1_S20x1) broadcasts_S20x1_S20x256)
    (shapeCast S20x256 (View.ld x1 (Rect.unit (s := S10x20x256) ![d.val, 0, 0] S1x20x256.size (inb_codes d))) shapeCasts_S1x20x256_S20x256)

/-- Their squares summed over the dimensions up to `n`. -/
def sqSum (b : Fin 6) : (n : ℕ) → n < 10 → FVec F S20x256 .f32
  | 0, h => mulf (diffOf x0 x1 b ⟨0, h⟩) (diffOf x0 x1 b ⟨0, h⟩)
  | n + 1, h => addf (sqSum b n (by omega)) (mulf (diffOf x0 x1 b ⟨n + 1, h⟩) (diffOf x0 x1 b ⟨n + 1, h⟩))

/-- The store of query `b`. -/
def lutPiece (b : Fin 6) : View.Piece (Elt F) S6x20x256 .f32 :=
  ⟨Rect.unit (s := S6x20x256) ![b.val, 0, 0] S1x20x256.size (by revert b; decide), shapeCast S1x20x256 (sqSum x0 x1 b 9 (by decide)) shapeCasts_S20x256_S1x20x256⟩

/-- The six stores, last first. -/
theorem out0_2_eq : out0_2 x0 x1 = View.canon [lutPiece x0 x1 5, lutPiece x0 x1 4, lutPiece x0 x1 3, lutPiece x0 x1 2, lutPiece x0 x1 1, lutPiece x0 x1 0] := by
  sl_kernel_rfl

end Float

variable (x0 : Vec Ideal S10x6x20x1 .f32) (x1 : Vec Ideal S10x20x256 .f32)

/-- The distance of query `b` from code `k` of group `m`, from arrays with the dimensions first. -/
def lutG : S6x20x256.Idx → EReal := fun i =>
  ∑ d : Fin 10, (x0 (ValueIdx.ix4 d (i 0) (i 1) 0) - x1 (ValueIdx.ix3 d (i 1) (i 2))) * (x0 (ValueIdx.ix4 d (i 0) (i 1) 0) - x1 (ValueIdx.ix3 d (i 1) (i 2)))

/-- One coordinate of the difference at an index. -/
theorem diffOf_apply (b : Fin 6) (d : Fin 10) (m : Fin 20) (k : Fin 256) :
    diffOf (F := Ideal) x0 x1 b d (ValueIdx.ix2 m k) = x0 (ValueIdx.ix4 d b m 0) - x1 (ValueIdx.ix3 d m k) := by
  have h0 : broadcastTo S20x256 (shapeCast S20x1 (View.ld x0 (Rect.unit (s := S10x6x20x1) ![d.val, b.val, 0, 0] S1x1x20x1.size (inb_query b d))) shapeCasts_S1x1x20x1_S20x1) broadcasts_S20x1_S20x256 (ValueIdx.ix2 m k)
      = x0 (ValueIdx.ix4 d b m 0) := by
    refine (broadcastTo_apply _ _ _ (ValueIdx.ix2 m 0) fun a => by fin_cases a <;> rfl).trans ?_
    refine (shapeCast_apply _ _ _ (ValueIdx.ix4 (0 : Fin 1) (0 : Fin 1) m (0 : Fin 1)) ?_).trans ?_
    · rw [Shape.rowMajor_val_two, Shape.rowMajor_val_four]
      show ((0 * 1 + 0) * 20 + m.val) * 1 + 0 = m.val * 1 + 0; omega
    · show x0 _ = _
      congr 1; funext a; apply Fin.ext
      fin_cases a
      · show d.val + 1 * 0 = d.val; omega
      · show b.val + 1 * 0 = b.val; omega
      · show 0 + 1 * m.val = m.val; omega
      · rfl
  have h1 : (shapeCast S20x256 (View.ld x1 (Rect.unit (s := S10x20x256) ![d.val, 0, 0] S1x20x256.size (inb_codes d))) shapeCasts_S1x20x256_S20x256 : FVec Ideal S20x256 .f32) (ValueIdx.ix2 m k)
      = x1 (ValueIdx.ix3 d m k) := by
    refine (shapeCast_apply _ _ _ (ValueIdx.ix3 (0 : Fin 1) m k) ?_).trans ?_
    · rw [Shape.rowMajor_val_two, Shape.rowMajor_val_three]
      show (0 * 20 + m.val) * 256 + k.val = m.val * 256 + k.val; omega
    · show x1 _ = _
      congr 1; funext a; apply Fin.ext
      fin_cases a
      · show d.val + 1 * 0 = d.val; omega
      · show 0 + 1 * m.val = m.val; omega
      · show 0 + 1 * k.val = k.val; omega
  exact congrArg₂ (fun a b : EReal => a - b) h0 h1

/-- The running sum of the squares at an index. -/
theorem sqSum_apply (b : Fin 6) (m : Fin 20) (k : Fin 256) : ∀ (n : ℕ) (h : n < 10),
    sqSum (F := Ideal) x0 x1 b n h (ValueIdx.ix2 m k)
      = ∑ d : Fin (n + 1), (x0 (ValueIdx.ix4 ⟨d.val, by omega⟩ b m 0) - x1 (ValueIdx.ix3 ⟨d.val, by omega⟩ m k)) * (x0 (ValueIdx.ix4 ⟨d.val, by omega⟩ b m 0) - x1 (ValueIdx.ix3 ⟨d.val, by omega⟩ m k))
  | 0, h => by
    rw [Fin.sum_univ_one]
    show diffOf (F := Ideal) x0 x1 b ⟨0, h⟩ (ValueIdx.ix2 m k) * diffOf (F := Ideal) x0 x1 b ⟨0, h⟩ (ValueIdx.ix2 m k) = _
    rw [diffOf_apply]; rfl
  | n + 1, h => by
    rw [Fin.sum_univ_castSucc]
    show sqSum (F := Ideal) x0 x1 b n (by omega) (ValueIdx.ix2 m k)
      + diffOf (F := Ideal) x0 x1 b ⟨n + 1, h⟩ (ValueIdx.ix2 m k) * diffOf (F := Ideal) x0 x1 b ⟨n + 1, h⟩ (ValueIdx.ix2 m k) = _
    rw [diffOf_apply, sqSum_apply b m k n (by omega)]; rfl

/-- The store of query `b` holds that query's part of the table. -/
theorem lutPiece_val (b : Fin 6) : ∀ x, (lutPiece (F := Ideal) x0 x1 b).2 x = lutG x0 x1 ((lutPiece (F := Ideal) x0 x1 b).1.emb x) := by
  intro x
  obtain ⟨z, m, k, rfl⟩ : ∃ (z : Fin 1) (m : Fin 20) (k : Fin 256), x = ValueIdx.ix3 z m k := ⟨x 0, x 1, x 2, ValueIdx.eq_ix3 x⟩
  have he : (lutPiece (F := Ideal) x0 x1 b).1.emb (ValueIdx.ix3 z m k) = ValueIdx.ix3 b m k := by
    funext a; apply Fin.ext
    fin_cases a
    · show b.val + 1 * z.val = b.val; omega
    · show 0 + 1 * m.val = m.val; omega
    · show 0 + 1 * k.val = k.val; omega
  rw [he]
  refine (shapeCast_apply _ _ _ (ValueIdx.ix2 m k) ?_).trans (sqSum_apply x0 x1 b m k 9 (by decide))
  rw [Shape.rowMajor_val_two, Shape.rowMajor_val_three]
  show m.val * 256 + k.val = (z.val * 20 + m.val) * 256 + k.val; omega

/-- What the body leaves in the output's staging buffer. -/
theorem out0_2_val : out0_2 (F := Ideal) x0 x1 = lutG x0 x1 := by
  funext y
  rw [out0_2_eq]
  refine View.canon_apply_of_pieces (Val := Elt Ideal) (e := .f32) (lutG x0 x1) _ ?_ y (cover0_2 _ _ _ _ _ _ y)
  intro p hp
  simp only [List.mem_cons, List.not_mem_nil, or_false] at hp
  rcases hp with rfl | rfl | rfl | rfl | rfl | rfl <;> exact lutPiece_val x0 x1 _

end Cert.KernelIdeal.Gen

end
-- ==== Proof.AccI.lean ====
/-
The accumulators of one trip of the `adc` body: for query `b` and byte `p` of a code word, the sum over the twenty
sub-spaces of the table entry the byte selects, left to right.
-/
module

public import proofs.«01_k».proof.Proof.TripI
public import Idealize.ShloMosaic.Lib.Tactic

@[expose] public section

set_option maxRecDepth 8192
set_option maxHeartbeats 4000000

noncomputable section

namespace Cert.KernelIdeal.Gen

open Idealize.ShloMosaic Idealize.ShloMosaic.TcCoe Idealize.ShloMosaic.Tactic

variable {F : FTy → Type} [FloatOps F]

section Acc

variable (arg1 : Memref sig .tc .vmem S6x20x256 .f32) (arg3 : Memref sig .tc .vmem S20x32x1024 .i8)
  (X_arg1 : BufTy.Contents (Elt F) arg1.view.ty) (X_arg3 : BufTy.Contents (Elt F) arg3.view.ty) (k : Fin k1_t1_loop.trips)

/-- The code plane of sub-space `m` in trip `k`: 32 rows of 128 codes. -/
def codePlane : Fin 20 → Vec F S1x32x128 .i8
  | ⟨0, _⟩ => View.readAt (Elt F) arg3.view (Rect.unit (s := S20x32x1024) (k1_off1 k) S1x32x128.size (k1_off1_inb k)).toLoadRect X_arg3
  | ⟨1, _⟩ => View.readAt (Elt F) arg3.view (Rect.unit (s := S20x32x1024) (k1_off2 k) S1x32x128.size (k1_off2_inb k)).toLoadRect X_arg3
  | ⟨2, _⟩ => View.readAt (Elt F) arg3.view (Rect.unit (s := S20x32x1024) (k1_off3 k) S1x32x128.size (k1_off3_inb k)).toLoadRect X_arg3
  | ⟨3, _⟩ => View.readAt (Elt F) arg3.view (Rect.unit (s := S20x32x1024) (k1_off4 k) S1x32x128.size (k1_off4_inb k)).toLoadRect X_arg3
  | ⟨4, _⟩ => View.readAt (Elt F) arg3.view (Rect.unit (s := S20x32x1024) (k1_off5 k) S1x32x128.size (k1_off5_inb k)).toLoadRect X_arg3
  | ⟨5, _⟩ => View.readAt (Elt F) arg3.view (Rect.unit (s := S20x32x1024) (k1_off6 k) S1x32x128.size (k1_off6_inb k)).toLoadRect X_arg3
  | ⟨6, _⟩ => View.readAt (Elt F) arg3.view (Rect.unit (s := S20x32x1024) (k1_off7 k) S1x32x128.size (k1_off7_inb k)).toLoadRect X_arg3
  | ⟨7, _⟩ => View.readAt (Elt F) arg3.view (Rect.unit (s := S20x32x1024) (k1_off8 k) S1x32x128.size (k1_off8_inb k)).toLoadRect X_arg3
  | ⟨8, _⟩ => View.readAt (Elt F) arg3.view (Rect.unit (s := S20x32x1024) (k1_off9 k) S1x32x128.size (k1_off9_inb k)).toLoadRect X_arg3
  | ⟨9, _⟩ => View.readAt (Elt F) arg3.view (Rect.unit (s := S20x32x1024) (k1_off10 k) S1x32x128.size (k1_off10_inb k)).toLoadRect X_arg3
  | ⟨10, _⟩ => View.readAt (Elt F) arg3.view (Rect.unit (s := S20x32x1024) (k1_off11 k) S1x32x128.size (k1_off11_inb k)).toLoadRect X_arg3
  | ⟨11, _⟩ => View.readAt (Elt F) arg3.view (Rect.unit (s := S20x32x1024) (k1_off12 k) S1x32x128.size (k1_off12_inb k)).toLoadRect X_arg3
  | ⟨12, _⟩ => View.readAt (Elt F) arg3.view (Rect.unit (s := S20x32x1024) (k1_off13 k) S1x32x128.size (k1_off13_inb k)).toLoadRect X_arg3
  | ⟨13, _⟩ => View.readAt (Elt F) arg3.view (Rect.unit (s := S20x32x1024) (k1_off14 k) S1x32x128.size (k1_off14_inb k)).toLoadRect X_arg3
  | ⟨14, _⟩ => View.readAt (Elt F) arg3.view (Rect.unit (s := S20x32x1024) (k1_off15 k) S1x32x128.size (k1_off15_inb k)).toLoadRect X_arg3
  | ⟨15, _⟩ => View.readAt (Elt F) arg3.view (Rect.unit (s := S20x32x1024) (k1_off16 k) S1x32x128.size (k1_off16_inb k)).toLoadRect X_arg3
  | ⟨16, _⟩ => View.readAt (Elt F) arg3.view (Rect.unit (s := S20x32x1024) (k1_off17 k) S1x32x128.size (k1_off17_inb k)).toLoadRect X_arg3
  | ⟨17, _⟩ => View.readAt (Elt F) arg3.view (Rect.unit (s := S20x32x1024) (k1_off18 k) S1x32x128.size (k1_off18_inb k)).toLoadRect X_arg3
  | ⟨18, _⟩ => View.readAt (Elt F) arg3.view (Rect.unit (s := S20x32x1024) (k1_off19 k) S1x32x128.size (k1_off19_inb k)).toLoadRect X_arg3
  | ⟨_, _⟩ => View.readAt (Elt F) arg3.view (Rect.unit (s := S20x32x1024) (k1_off20 k) S1x32x128.size (k1_off20_inb k)).toLoadRect X_arg3

/-- Its words: word `s` of a lane holds the codes of rows `4 s` to `4 s + 3`. -/
def words (m : Fin 20) : IVec S8x128 32 :=
  bitcast S8x128 32 (shapeCast S32x128 (codePlane (F := F) arg3 X_arg3 k m) shapeCasts_S1x32x128_S32x128) bitcasts_S32x128_w8_S8x128_w32

/-- The lower half of the table row of query `b` and sub-space `m`, on eight rows. -/
def tabLo (b : Fin 6) (m : Fin 20) : FVec F S8x128 .f32 :=
  broadcastTo S8x128 (shapeCast S1x128 (shapeCast S1x128 (View.readAt (Elt F) arg1.view (Rect.unit (s := S6x20x256) ![b.val, m.val, 0] S1x1x128.size (by revert b m; decide)).toLoadRect X_arg1) shapeCasts_S1x1x128_S1x128) shapeCasts_S1x128_S1x128) broadcasts_S1x128_S8x128

/-- The upper half. -/
def tabHi (b : Fin 6) (m : Fin 20) : FVec F S8x128 .f32 :=
  broadcastTo S8x128 (shapeCast S1x128 (shapeCast S1x128 (View.readAt (Elt F) arg1.view (Rect.unit (s := S6x20x256) ![b.val, m.val, 128] S1x1x128.size (by revert b m; decide)).toLoadRect X_arg1) shapeCasts_S1x1x128_S1x128) shapeCasts_S1x128_S1x128) broadcasts_S1x128_S8x128

/-- The position within a half: the low seven bits of byte `r / 8` of the word. -/
def lowBits (r : BitVec 32) (w : IVec S8x128 32) : IVec S8x128 32 :=
  shapeCast S8x128 (shapeCast S8x128x1 (andi (shrsi w (broadcast S8x128 r)) (broadcast S8x128 127#32)) shapeCasts_S8x128_S8x128x1) shapeCasts_S8x128x1_S8x128

/-- Whether the top bit of the byte is clear, the byte shifted to the top by `l`. -/
def topClear (l : BitVec 32) (w : IVec S8x128 32) : IVec S8x128 1 :=
  cmpi .sge (shli w (broadcast S8x128 l)) (broadcast S8x128 0#32)

/-- The table entries selected in sub-space `m` by the bytes at `r`. -/
def term (b : Fin 6) (r l : BitVec 32) (m : Fin 20) : FVec F S8x128 .f32 :=
  select (topClear l (words (F := F) arg3 X_arg3 k m)) (dynamicGather 1 (tabLo arg1 X_arg1 b m) (lowBits r (words (F := F) arg3 X_arg3 k m)))
    (dynamicGather 1 (tabHi arg1 X_arg1 b m) (lowBits r (words (F := F) arg3 X_arg3 k m)))

/-- The sum over the sub-spaces up to `n`. -/
def accS (b : Fin 6) (r l : BitVec 32) : (n : ℕ) → n < 20 → FVec F S8x128 .f32
  | 0, h => term arg1 arg3 X_arg1 X_arg3 k b r l ⟨0, h⟩
  | n + 1, h => addf (accS b r l n (Nat.lt_of_succ_lt h)) (term arg1 arg3 X_arg1 X_arg3 k b r l ⟨n + 1, h⟩)

/-- The accumulator of query 0, byte 0. -/
theorem acc_0_0 : trip_k1_t1.sl.r_827 arg1 arg3 X_arg1 X_arg3 k = accS arg1 arg3 X_arg1 X_arg3 k ⟨0, by decide⟩ 0#32 24#32 19 (by decide) := by
  sl_kernel_rfl

/-- The accumulator of query 0, byte 1. -/
theorem acc_0_1 : trip_k1_t1.sl.r_835 arg1 arg3 X_arg1 X_arg3 k = accS arg1 arg3 X_arg1 X_arg3 k ⟨0, by decide⟩ 8#32 16#32 19 (by decide) := by
  sl_kernel_rfl

/-- The accumulator of query 0, byte 2. -/
theorem acc_0_2 : trip_k1_t1.sl.r_843 arg1 arg3 X_arg1 X_arg3 k = accS arg1 arg3 X_arg1 X_arg3 k ⟨0, by decide⟩ 16#32 8#32 19 (by decide) := by
  sl_kernel_rfl

/-- The accumulator of query 0, byte 3. -/
theorem acc_0_3 : trip_k1_t1.sl.r_851 arg1 arg3 X_arg1 X_arg3 k = accS arg1 arg3 X_arg1 X_arg3 k ⟨0, by decide⟩ 24#32 0#32 19 (by decide) := by
  sl_kernel_rfl

/-- The accumulator of query 1, byte 0. -/
theorem acc_1_0 : trip_k1_t1.sl.r_828 arg1 arg3 X_arg1 X_arg3 k = accS arg1 arg3 X_arg1 X_arg3 k ⟨1, by decide⟩ 0#32 24#32 19 (by decide) := by
  sl_kernel_rfl

/-- The accumulator of query 1, byte 1. -/
theorem acc_1_1 : trip_k1_t1.sl.r_836 arg1 arg3 X_arg1 X_arg3 k = accS arg1 arg3 X_arg1 X_arg3 k ⟨1, by decide⟩ 8#32 16#32 19 (by decide) := by
  sl_kernel_rfl

/-- The accumulator of query 1, byte 2. -/
theorem acc_1_2 : trip_k1_t1.sl.r_844 arg1 arg3 X_arg1 X_arg3 k = accS arg1 arg3 X_arg1 X_arg3 k ⟨1, by decide⟩ 16#32 8#32 19 (by decide) := by
  sl_kernel_rfl

/-- The accumulator of query 1, byte 3. -/
theorem acc_1_3 : trip_k1_t1.sl.r_852 arg1 arg3 X_arg1 X_arg3 k = accS arg1 arg3 X_arg1 X_arg3 k ⟨1, by decide⟩ 24#32 0#32 19 (by decide) := by
  sl_kernel_rfl

/-- The accumulator of query 2, byte 0. -/
theorem acc_2_0 : trip_k1_t1.sl.r_829 arg1 arg3 X_arg1 X_arg3 k = accS arg1 arg3 X_arg1 X_arg3 k ⟨2, by decide⟩ 0#32 24#32 19 (by decide) := by
  sl_kernel_rfl

/-- The accumulator of query 2, byte 1. -/
theorem acc_2_1 : trip_k1_t1.sl.r_837 arg1 arg3 X_arg1 X_arg3 k = accS arg1 arg3 X_arg1 X_arg3 k ⟨2, by decide⟩ 8#32 16#32 19 (by decide) := by
  sl_kernel_rfl

/-- The accumulator of query 2, byte 2. -/
theorem acc_2_2 : trip_k1_t1.sl.r_845 arg1 arg3 X_arg1 X_arg3 k = accS arg1 arg3 X_arg1 X_arg3 k ⟨2, by decide⟩ 16#32 8#32 19 (by decide) := by
  sl_kernel_rfl

/-- The accumulator of query 2, byte 3. -/
theorem acc_2_3 : trip_k1_t1.sl.r_853 arg1 arg3 X_arg1 X_arg3 k = accS arg1 arg3 X_arg1 X_arg3 k ⟨2, by decide⟩ 24#32 0#32 19 (by decide) := by
  sl_kernel_rfl

/-- The accumulator of query 3, byte 0. -/
theorem acc_3_0 : trip_k1_t1.sl.r_830 arg1 arg3 X_arg1 X_arg3 k = accS arg1 arg3 X_arg1 X_arg3 k ⟨3, by decide⟩ 0#32 24#32 19 (by decide) := by
  sl_kernel_rfl

/-- The accumulator of query 3, byte 1. -/
theorem acc_3_1 : trip_k1_t1.sl.r_838 arg1 arg3 X_arg1 X_arg3 k = accS arg1 arg3 X_arg1 X_arg3 k ⟨3, by decide⟩ 8#32 16#32 19 (by decide) := by
  sl_kernel_rfl

/-- The accumulator of query 3, byte 2. -/
theorem acc_3_2 : trip_k1_t1.sl.r_846 arg1 arg3 X_arg1 X_arg3 k = accS arg1 arg3 X_arg1 X_arg3 k ⟨3, by decide⟩ 16#32 8#32 19 (by decide) := by
  sl_kernel_rfl

/-- The accumulator of query 3, byte 3. -/
theorem acc_3_3 : trip_k1_t1.sl.r_854 arg1 arg3 X_arg1 X_arg3 k = accS arg1 arg3 X_arg1 X_arg3 k ⟨3, by decide⟩ 24#32 0#32 19 (by decide) := by
  sl_kernel_rfl

/-- The accumulator of query 4, byte 0. -/
theorem acc_4_0 : trip_k1_t1.sl.r_831 arg1 arg3 X_arg1 X_arg3 k = accS arg1 arg3 X_arg1 X_arg3 k ⟨4, by decide⟩ 0#32 24#32 19 (by decide) := by
  sl_kernel_rfl

/-- The accumulator of query 4, byte 1. -/
theorem acc_4_1 : trip_k1_t1.sl.r_839 arg1 arg3 X_arg1 X_arg3 k = accS arg1 arg3 X_arg1 X_arg3 k ⟨4, by decide⟩ 8#32 16#32 19 (by decide) := by
  sl_kernel_rfl

/-- The accumulator of query 4, byte 2. -/
theorem acc_4_2 : trip_k1_t1.sl.r_847 arg1 arg3 X_arg1 X_arg3 k = accS arg1 arg3 X_arg1 X_arg3 k ⟨4, by decide⟩ 16#32 8#32 19 (by decide) := by
  sl_kernel_rfl

/-- The accumulator of query 4, byte 3. -/
theorem acc_4_3 : trip_k1_t1.sl.r_855 arg1 arg3 X_arg1 X_arg3 k = accS arg1 arg3 X_arg1 X_arg3 k ⟨4, by decide⟩ 24#32 0#32 19 (by decide) := by
  sl_kernel_rfl

/-- The accumulator of query 5, byte 0. -/
theorem acc_5_0 : trip_k1_t1.sl.r_832 arg1 arg3 X_arg1 X_arg3 k = accS arg1 arg3 X_arg1 X_arg3 k ⟨5, by decide⟩ 0#32 24#32 19 (by decide) := by
  sl_kernel_rfl

/-- The accumulator of query 5, byte 1. -/
theorem acc_5_1 : trip_k1_t1.sl.r_840 arg1 arg3 X_arg1 X_arg3 k = accS arg1 arg3 X_arg1 X_arg3 k ⟨5, by decide⟩ 8#32 16#32 19 (by decide) := by
  sl_kernel_rfl

/-- The accumulator of query 5, byte 2. -/
theorem acc_5_2 : trip_k1_t1.sl.r_848 arg1 arg3 X_arg1 X_arg3 k = accS arg1 arg3 X_arg1 X_arg3 k ⟨5, by decide⟩ 16#32 8#32 19 (by decide) := by
  sl_kernel_rfl

/-- The accumulator of query 5, byte 3. -/
theorem acc_5_3 : trip_k1_t1.sl.r_856 arg1 arg3 X_arg1 X_arg3 k = accS arg1 arg3 X_arg1 X_arg3 k ⟨5, by decide⟩ 24#32 0#32 19 (by decide) := by
  sl_kernel_rfl

end Acc

end Cert.KernelIdeal.Gen

end
-- ==== Proof.TileI.lean ====
/-
The tiles of one trip of the `adc` body, in closed form: the scratch planes read back, each masked four ways into 128 rows of
two queries' lanes, taken by a selector matrix into 32 tiles of eight rows; three such products are added.
-/
module

public import proofs.«01_k».proof.Proof.LoopI
public import proofs.«01_k».proof.Proof.AccI
public import Idealize.ShloMosaic.Lib.Tactic

@[expose] public section

set_option maxRecDepth 8192
set_option maxHeartbeats 4000000

noncomputable section

namespace Cert.KernelIdeal.Gen

open Idealize.ShloMosaic Idealize.ShloMosaic.TcCoe Idealize.ShloMosaic.Tactic

variable {F : FTy → Type} [FloatOps F]

/-- Whether the lane number in `v0`, modulo four, is `g`. -/
def laneIs (v0 : IVec S16x128 32) (g : BitVec 32) : IVec S16x128 1 :=
  cmpi .eq
    (select
      (andi (xori (cmpi .slt (remsi v0 (broadcast S16x128 4#32)) (broadcast S16x128 0#32))
          (broadcastTo S16x128 (broadcast S16x128 (Scalar.cmpi .slt 4#32 0#32)) broadcasts_S16x128_S16x128))
        (cmpi .ne (remsi v0 (broadcast S16x128 4#32)) (broadcast S16x128 0#32)))
      (addi (remsi v0 (broadcast S16x128 4#32)) (broadcast S16x128 4#32))
      (remsi v0 (broadcast S16x128 4#32)))
    (broadcast S16x128 g)

/-- One of the two interleaved halves of a scratch plane. -/
def halfRows (h : Fin 2) (st : Vec F S1x16x2x128 .bf16) : FVec F S16x128 .bf16 :=
  shapeCast S16x128 (shapeCast S1x16x128 (rowsOfParity h S1x16x1x128 st bitcasts_S1x16x2x128_w16_S1x16x1x128_w32) shapeCasts_S1x16x1x128_S1x16x128) shapeCasts_S1x16x128_S16x128

/-- A scratch plane as 32 rows, zero outside the lanes of mask `M`. -/
def maskedRows (M : IVec S16x128 1) (st : Vec F S1x16x2x128 .bf16) : FVec F S32x128 .bf16 :=
  interleaveRows S32x128 (select M (halfRows 0 st) (constant S16x128 .bf16 0x0000#16)) (select M (halfRows 1 st) (constant S16x128 .bf16 0x0000#16)) bitcasts_S32x128_w16_S16x128_w32

/-- Two queries' masked rows side by side. -/
def maskedPair (M : IVec S16x128 1) (a b : Vec F S1x16x2x128 .bf16) : FVec F S32x256 .bf16 :=
  concatenate S32x256 1 [⟨S32x128, maskedRows M a⟩, ⟨S32x128, maskedRows M b⟩] concatenates_S32x128_S32x128_S32x256_d1

/-- The four masks' rows one below the other. -/
def maskedAll (v0 : IVec S16x128 32) (a b : Vec F S1x16x2x128 .bf16) : FVec F S128x256 .bf16 :=
  concatenate S128x256 0 [⟨S32x256, maskedPair (laneIs v0 0#32) a b⟩, ⟨S32x256, maskedPair (laneIs v0 1#32) a b⟩, ⟨S32x256, maskedPair (laneIs v0 2#32) a b⟩, ⟨S32x256, maskedPair (laneIs v0 3#32) a b⟩] concatenates_S32x256_S32x256_S32x256_S32x256_S128x256_d0

/-- Their product with one selector matrix. -/
def selected (v0 : IVec S16x128 32) (a b : Vec F S1x16x2x128 .bf16) (s : Vec F S1x256x256 .bf16) : FVec F S256x128 .f32 :=
  matmul dot_S256x256_S128x256_S256x128_1_1_0_0_n_n none (shapeCast S256x256 s shapeCasts_S1x256x256_S256x256) (maskedAll v0 a b) (constant S256x128 .f32 0x00000000#32)

section Tile

variable (arg1 : Memref sig .tc .vmem S6x20x256 .f32) (arg2 : Memref sig .tc .vmem S3x256x256 .bf16) (arg3 : Memref sig .tc .vmem S20x32x1024 .i8)
  (arg5 : Memref sig .tc .vmem S6x16x2x128 .bf16) (v0 : IVec S16x128 32)
  (X_arg1 : BufTy.Contents (Elt F) arg1.view.ty) (X_arg2 : BufTy.Contents (Elt F) arg2.view.ty) (X_arg3 : BufTy.Contents (Elt F) arg3.view.ty) (k : Fin k1_t1_loop.trips)

/-- The scratch plane of query `b`, read back from contents `f`. -/
def planeOf (f : BufTy.Contents (Elt F) arg5.view.ty) (b : Fin 6) : Vec F S1x16x2x128 .bf16 :=
  View.readAt (Elt F) arg5.view (Rect.unit (s := S6x16x2x128) ![b.val, 0, 0, 0] S1x16x2x128.size (by revert b; decide)).toLoadRect f

/-- Selector matrix `j`. -/
def selAt (j : Fin 3) : Vec F S1x256x256 .bf16 :=
  View.readAt (Elt F) arg2.view (Rect.unit (s := S3x256x256) ![j.val, 0, 0] S1x256x256.size (by revert j; decide)).toLoadRect X_arg2

/-- The 32 tiles of a trip, one below the other. -/
def tileRows (st : Fin 6 → Vec F S1x16x2x128 .bf16) (s : Fin 3 → Vec F S1x256x256 .bf16) : FVec F S256x128 .bf16 :=
  truncf .bf16 (addf (addf (selected v0 (st 0) (st 1) (s 0)) (selected v0 (st 2) (st 3) (s 1))) (selected v0 (st 4) (st 5) (s 2))) bitsLt_bf16_f32

/-- What the run names the tiles is that. -/
theorem r_880_eq (f_arg5 : BufTy.Contents (Elt F) arg5.view.ty) :
    trip_k1_t1.sl.r_880 arg1 arg2 arg3 arg5 v0 X_arg1 X_arg2 X_arg3 k f_arg5
      = tileRows v0 (fun b => planeOf arg5 (arg5.view.writes (Elt F) f_arg5 (trip_k1_t1.sl.HW_arg5_12 arg1 arg3 X_arg1 X_arg3 k)) b) (selAt arg2 X_arg2) := by
  sl_kernel_rfl

/-- One accumulator pair as it is staged: the two bytes' sums in alternate rows. -/
def stageVal (lo hi : FVec F S8x128 .f32) : Vec F S1x8x2x128 .bf16 :=
  interleaveRows S1x8x2x128 (shapeCast S1x8x1x128 (shapeCast S1x8x128 (truncf .bf16 lo bitsLt_bf16_f32) shapeCasts_S8x128_S1x8x128) shapeCasts_S1x8x128_S1x8x1x128)
    (shapeCast S1x8x1x128 (shapeCast S1x8x128 (truncf .bf16 hi bitsLt_bf16_f32) shapeCasts_S8x128_S1x8x128) shapeCasts_S1x8x128_S1x8x1x128) bitcasts_S1x8x2x128_w16_S1x8x1x128_w32

/-- The accumulator of query `b` and byte `p`. -/
def accOf (b : Fin 6) (p : Fin 4) : FVec F S8x128 .f32 :=
  accS arg1 arg3 X_arg1 X_arg3 k b (BitVec.ofNat 32 (8 * p.val)) (BitVec.ofNat 32 (24 - 8 * p.val)) 19 (by decide)

/-- The strided store of query `b` and byte pair `q`. -/
def stagePiece (b : Fin 6) (q : Fin 2) : View.Piece (Elt F) S6x16x2x128 .bf16 :=
  ⟨{ off := ![b.val, q.val, 0, 0], size := S1x8x2x128.size, stride := ![1, 2, 1, 1], inb := by revert b q; decide, stride_pos := spos_1_2_1_1 },
    stageVal (accOf arg1 arg3 X_arg1 X_arg3 k b ⟨2 * q.val, by omega⟩) (accOf arg1 arg3 X_arg1 X_arg3 k b ⟨2 * q.val + 1, by omega⟩)⟩

/-- The twelve stores into the scratch, last first. -/
def stageList : List (View.Piece (Elt F) S6x16x2x128 .bf16) :=
  [stagePiece arg1 arg3 X_arg1 X_arg3 k 5 1, stagePiece arg1 arg3 X_arg1 X_arg3 k 5 0, stagePiece arg1 arg3 X_arg1 X_arg3 k 4 1, stagePiece arg1 arg3 X_arg1 X_arg3 k 4 0,
   stagePiece arg1 arg3 X_arg1 X_arg3 k 3 1, stagePiece arg1 arg3 X_arg1 X_arg3 k 3 0, stagePiece arg1 arg3 X_arg1 X_arg3 k 2 1, stagePiece arg1 arg3 X_arg1 X_arg3 k 2 0,
   stagePiece arg1 arg3 X_arg1 X_arg3 k 1 1, stagePiece arg1 arg3 X_arg1 X_arg3 k 1 0, stagePiece arg1 arg3 X_arg1 X_arg3 k 0 1, stagePiece arg1 arg3 X_arg1 X_arg3 k 0 0]

/-- The stores the run finds are these. -/
theorem stageList_eq : trip_k1_t1.sl.HW_arg5_12 arg1 arg3 X_arg1 X_arg3 k = stageList arg1 arg3 X_arg1 X_arg3 k := by
  sl_kernel_rfl

/-- The planes a trip stages. -/
def planes (b : Fin 6) : Vec F S1x16x2x128 .bf16 :=
  planeOf arg5 (arg5.view.writes (Elt F) arg5.view.junk (stageList arg1 arg3 X_arg1 X_arg3 k)) b

/-- The store of tile `t`. -/
def tilePiece (t : Fin 32) : View.Piece (Elt F) S6x32768 .bf16 :=
  ⟨Rect.unit (s := S6x32768) (k1_off21 k (BitVec.ofNat 32 (128 * t.val))) S6x128.size (k1_off21_inb k t),
    extractStridedSlice S6x128 ![8 * t.val, 0] (tileRows v0 (planes arg1 arg3 arg5 X_arg1 X_arg3 k) (selAt arg2 X_arg2)) (by revert t; decide)⟩

/-- The tiles a trip stores, last first. -/
theorem tripPieces_eq (𝒱 : Variants) (c : Dev nD) (bd : Option 𝒱.V) (i : grid1.Coords) (harg1 : arg1.IsWhole) (harg2 : arg2.IsWhole) (harg3 : arg3.IsWhole) (arg4 : Memref sig .tc .vmem S6x32768 .bf16) (harg4 : arg4.IsWhole) (harg5 : arg5.IsWhole) :
    tripPieces 𝒱 c bd i arg1 harg1 arg2 harg2 arg3 harg3 arg4 harg4 arg5 harg5 v0 X_arg1 X_arg2 X_arg3 k
      = List.ofFn (fun t : Fin 32 => tilePiece arg1 arg2 arg3 arg5 v0 X_arg1 X_arg2 X_arg3 k t.rev) := by
  unfold tripPieces trip_k1_t1
  sl_kernel_rfl

end Tile

end Cert.KernelIdeal.Gen

end
-- ==== Proof.ByteI.lean ====
/-
One code byte read out of a 32-bit word: its low seven bits give the position in a half of the table, its top bit the half.
-/
module

public import proofs.«01_k».proof.Proof.TileI
public import Idealize.ShloMosaic.Lib.BitcastFour
public import Idealize.ShloMosaic.Lib.ValueIdx
public import Idealize.ShloMosaic.Lib.Pipeline.Value

@[expose] public section

set_option maxRecDepth 8192

noncomputable section

namespace Cert.KernelIdeal.Gen

open Idealize.ShloMosaic Idealize.ShloMosaic.TcCoe

/-- Byte `p` of a word. -/
def byteOf (p : Fin 4) (w : BitVec 32) : BitVec 8 := w.extractLsb' (8 * p.val) 8

/-- A byte's low seven bits are the byte modulo 128. -/
theorem and_127 : ∀ c : BitVec 8, (c &&& 127#8).toNat = c.toNat % 128 := by decide

/-- A byte's top bit is clear exactly when the byte is below 128. -/
theorem msb_lt : ∀ c : BitVec 8, (!c.msb) = decide (c.toNat < 128) := by decide

/-- The masked shift is the byte's low seven bits. -/
theorem low_word (w : BitVec 32) (p : Fin 4) :
    (IntOp.andi (IntOp.shrsi .vector w (BitVec.ofNat 32 (8 * p.val))) 127#32).toNat = (byteOf p w).toNat % 128 := by
  have h : IntOp.andi (IntOp.shrsi .vector w (BitVec.ofNat 32 (8 * p.val))) 127#32 = (byteOf p w &&& 127#8).setWidth 32 := by
    have h127 : ∀ i < 32, (127#32 : BitVec 32).getLsbD i = decide (i < 7) := by decide
    have h127' : ∀ i < 8, (127#8 : BitVec 8).getLsbD i = decide (i < 7) := by decide
    apply BitVec.eq_of_getLsbD_eq
    intro i hi
    have hs : IntOp.shrsi .vector w (BitVec.ofNat 32 (8 * p.val)) = w.sshiftRight (8 * p.val) := by
      fin_cases p <;> rfl
    rw [hs]
    simp only [IntOp.andi, BitVec.getLsbD_and, BitVec.getLsbD_setWidth, BitVec.getLsbD_sshiftRight, h127 i hi, byteOf, BitVec.getLsbD_extractLsb']
    by_cases h7 : i < 7
    · rw [h127' i (by omega)]
      have : 8 * p.val + i < 32 := by omega
      simp [h7, hi, this, show i < 8 by omega]
    · by_cases h8 : i < 8
      · rw [h127' i h8]; simp [h7]
      · simp [h7, BitVec.getLsbD_of_ge (127#8 : BitVec 8) i (by omega)]
  rw [h, BitVec.toNat_setWidth, and_127]
  omega

/-- The byte shifted to the top is non-negative when its top bit is clear. -/
theorem top_word (w : BitVec 32) (p : Fin 4) :
    IntOp.cmpi .sge (IntOp.shli .vector w (BitVec.ofNat 32 (24 - 8 * p.val))) 0#32 = BitVec.ofBool (decide ((byteOf p w).toNat < 128)) := by
  have hs : IntOp.shli .vector w (BitVec.ofNat 32 (24 - 8 * p.val)) = w <<< (24 - 8 * p.val) := by
    fin_cases p <;> rfl
  rw [hs, ← msb_lt]
  show BitVec.ofBool (BitVec.sle 0#32 (w <<< (24 - 8 * p.val))) = _
  congr 1
  rw [BitVec.zero_sle_eq_not_msb]
  congr 1
  rw [BitVec.msb_eq_getLsbD_last, BitVec.msb_eq_getLsbD_last]
  simp only [byteOf, BitVec.getLsbD_shiftLeft, BitVec.getLsbD_extractLsb']
  have : p.val < 4 := p.isLt
  simp only [show 32 - 1 - (24 - 8 * p.val) = 8 * p.val + (8 - 1) by omega, show ¬ (32 - 1 < 24 - 8 * p.val) by omega]
  simp

/-- Byte `p` of the word at row `a`, lane `l`, of an eight-bit tile read as words is the tile's row `4 a + p` there. -/
theorem byteOf_bitcast (x : S32x128.Idx → BitVec 8) (h : S32x128.Bitcasts 8 S8x128 32) (a : Fin 8) (l : Fin 128) (p : Fin 4) :
    byteOf p (bitcast S8x128 32 x h (ValueIdx.ix2 a l)) = x (ValueIdx.ix2 ⟨4 * a.val + p.val, by omega⟩ l) := by
  apply BitVec.eq_of_getLsbD_eq
  intro i hi
  rw [byteOf, BitVec.getLsbD_extractLsb']
  rw [bitcast_8_32_getLsbD_ix2 x h a l (8 * p.val + i) (by omega) ⟨4 * a.val + p.val, by omega⟩ (by show 4 * a.val + p.val = _; omega)]
  simp [hi, show (8 * p.val + i) % 8 = i by omega]

end Cert.KernelIdeal.Gen

end
-- ==== Proof.AccValI.lean ====
/-
The accumulators of one trip read at an index: the sum over the twenty sub-spaces of the table entry that the code names.
-/
module

public import proofs.«01_k».proof.Proof.ByteI

@[expose] public section

set_option maxRecDepth 8192

noncomputable section

namespace Cert.KernelIdeal.Gen

open Idealize.ShloMosaic Idealize.ShloMosaic.TcCoe

section AccVal

variable {F : FTy → Type} [FloatOps F]

variable (arg1 : Memref sig .tc .vmem S6x20x256 .f32) (arg3 : Memref sig .tc .vmem S20x32x1024 .i8)
  (X_arg1 : BufTy.Contents (Elt F) arg1.view.ty) (X_arg3 : BufTy.Contents (Elt F) arg3.view.ty) (k : Fin k1_t1_loop.trips)

/-- The loop makes eight trips. -/
theorem trips_eq : k1_t1_loop.trips = 8 := by decide

/-- A trip number is below eight. -/
theorem trip_lt : k.val < 8 := trips_eq ▸ k.isLt

/-- The column of a block at which lane `l` of trip `k` lies. -/
def colOf (l : Fin 128) : Fin 1024 := ⟨128 * k.val + l.val, by have := trip_lt k; omega⟩

/-- The codes as bytes. -/
def codesOf : S20x32x1024.Idx → BitVec 8 := arg3.view.read (Elt F) X_arg3

/-- A code plane reads the codes at its trip's columns. -/
theorem codePlane_apply (m : Fin 20) (t : Fin 32) (l : Fin 128) :
    codePlane arg3 X_arg3 k m (ValueIdx.ix3 0 t l) = codesOf arg3 X_arg3 (ValueIdx.ix3 m t (colOf k l)) := by
  have key : ∀ (off : Fin 3 → Nat) (inb : ∀ a, off a + S1x32x128.size a ≤ S20x32x1024.size a), off = ![m.val, 0, 128 * k.val] →
      View.readAt (Elt F) arg3.view (Rect.unit (s := S20x32x1024) off S1x32x128.size inb).toLoadRect X_arg3 (ValueIdx.ix3 0 t l)
        = codesOf arg3 X_arg3 (ValueIdx.ix3 m t (colOf k l)) := by
    intro off inb h
    subst h
    show arg3.view.read (Elt F) X_arg3 _ = arg3.view.read (Elt F) X_arg3 _
    congr 1
    funext a
    apply Fin.ext
    fin_cases a
    · show m.val + 1 * 0 = m.val; omega
    · show 0 + 1 * t.val = t.val; omega
    · show 128 * k.val + 1 * l.val = 128 * k.val + l.val; omega
  fin_cases m
  · exact key _ _ (k1_off1_eq k)
  · exact key _ _ (k1_off2_eq k)
  · exact key _ _ (k1_off3_eq k)
  · exact key _ _ (k1_off4_eq k)
  · exact key _ _ (k1_off5_eq k)
  · exact key _ _ (k1_off6_eq k)
  · exact key _ _ (k1_off7_eq k)
  · exact key _ _ (k1_off8_eq k)
  · exact key _ _ (k1_off9_eq k)
  · exact key _ _ (k1_off10_eq k)
  · exact key _ _ (k1_off11_eq k)
  · exact key _ _ (k1_off12_eq k)
  · exact key _ _ (k1_off13_eq k)
  · exact key _ _ (k1_off14_eq k)
  · exact key _ _ (k1_off15_eq k)
  · exact key _ _ (k1_off16_eq k)
  · exact key _ _ (k1_off17_eq k)
  · exact key _ _ (k1_off18_eq k)
  · exact key _ _ (k1_off19_eq k)
  · exact key _ _ (k1_off20_eq k)

/-- A unit leading axis dropped. -/
theorem shapeCast_1rc_rc {α : Type} {R C : Nat} (x : (⟨3, ![1, R, C]⟩ : Shape).Idx → α) (h : (⟨3, ![1, R, C]⟩ : Shape).ShapeCasts ⟨2, ![R, C]⟩)
    (r : Fin R) (c : Fin C) : shapeCast ⟨2, ![R, C]⟩ x h (ValueIdx.ix2 r c) = x (ValueIdx.ix3 0 r c) := by
  apply shapeCast_apply
  rw [Shape.rowMajor_val_three, Shape.rowMajor_val_two]
  show (0 * R + r.val) * C + c.val = r.val * C + c.val
  rw [Nat.zero_mul, Nat.zero_add]

/-- Byte `p` of a plane's word is the code of row `4 s + p`. -/
theorem byteOf_words (m : Fin 20) (s : Fin 8) (l : Fin 128) (p : Fin 4) :
    byteOf p (words (F := F) arg3 X_arg3 k m (ValueIdx.ix2 s l))
      = codesOf arg3 X_arg3 (ValueIdx.ix3 m ⟨4 * s.val + p.val, by omega⟩ (colOf k l)) := by
  rw [words, byteOf_bitcast, ← codePlane_apply]
  exact shapeCast_1rc_rc _ _ _ _

/-- The table. -/
def tableOf : S6x20x256.Idx → F .f32 := arg1.view.read (Elt F) X_arg1

/-- A table row of 128 repeated on eight rows. -/
theorem tab_rows (x : Vec F S1x1x128 .f32) (s : Fin 8) (l : Fin 128) :
    broadcastTo S8x128 (shapeCast S1x128 (shapeCast S1x128 x shapeCasts_S1x1x128_S1x128) shapeCasts_S1x128_S1x128) broadcasts_S1x128_S8x128 (ValueIdx.ix2 s l)
      = x (ValueIdx.ix3 0 0 l) := by
  rw [broadcastTo_apply _ _ _ (ValueIdx.ix2 0 l) (by intro a; fin_cases a <;> rfl), shapeCast_apply _ _ _ (ValueIdx.ix2 0 l) rfl]
  exact shapeCast_1rc_rc _ _ _ _

/-- The lower half table row reads the table. -/
theorem tabLo_apply (b : Fin 6) (m : Fin 20) (s : Fin 8) (l : Fin 128) :
    tabLo arg1 X_arg1 b m (ValueIdx.ix2 s l) = tableOf arg1 X_arg1 (ValueIdx.ix3 b m ⟨l.val, by omega⟩) := by
  rw [tabLo, tab_rows]
  show arg1.view.read (Elt F) X_arg1 _ = arg1.view.read (Elt F) X_arg1 _
  congr 1
  funext a
  apply Fin.ext
  fin_cases a
  · show b.val + 1 * 0 = b.val; omega
  · show m.val + 1 * 0 = m.val; omega
  · show 0 + 1 * l.val = l.val; omega

/-- The upper half table row reads the table. -/
theorem tabHi_apply (b : Fin 6) (m : Fin 20) (s : Fin 8) (l : Fin 128) :
    tabHi arg1 X_arg1 b m (ValueIdx.ix2 s l) = tableOf arg1 X_arg1 (ValueIdx.ix3 b m ⟨128 + l.val, by omega⟩) := by
  rw [tabHi, tab_rows]
  show arg1.view.read (Elt F) X_arg1 _ = arg1.view.read (Elt F) X_arg1 _
  congr 1
  funext a
  apply Fin.ext
  fin_cases a
  · show b.val + 1 * 0 = b.val; omega
  · show m.val + 1 * 0 = m.val; omega
  · show 128 + 1 * l.val = 128 + l.val; omega

/-- The masked shift at an index. -/
theorem lowBits_apply (r : BitVec 32) (w : IVec S8x128 32) (j : S8x128.Idx) :
    lowBits r w j = IntOp.andi (IntOp.shrsi .vector (w j) r) 127#32 := by
  unfold lowBits
  unfold shapeCast
  simp only [Shape.reshapeEquiv]
  simp
  rfl

/-- One table entry: the code of row `4 s + p` names it. -/
theorem term_apply (b : Fin 6) (p : Fin 4) (m : Fin 20) (s : Fin 8) (l : Fin 128) :
    term arg1 arg3 X_arg1 X_arg3 k b (BitVec.ofNat 32 (8 * p.val)) (BitVec.ofNat 32 (24 - 8 * p.val)) m (ValueIdx.ix2 s l)
      = tableOf arg1 X_arg1 (ValueIdx.ix3 b m (codesOf arg3 X_arg3 (ValueIdx.ix3 m ⟨4 * s.val + p.val, by omega⟩ (colOf k l))).toFin) := by
  rw [← byteOf_words]
  generalize hw : words (F := F) arg3 X_arg3 k m = w
  have hlow : ∀ T : FVec F S8x128 .f32, dynamicGather 1 T (lowBits (BitVec.ofNat 32 (8 * p.val)) w) (ValueIdx.ix2 s l)
      = T (ValueIdx.ix2 s ⟨(byteOf p (w (ValueIdx.ix2 s l))).toNat % 128, Nat.mod_lt _ (by decide)⟩) := by
    intro T
    show T _ = T _
    congr 1
    funext a
    apply Fin.ext
    fin_cases a
    · rfl
    · show (lowBits (BitVec.ofNat 32 (8 * p.val)) w (ValueIdx.ix2 s l)).toNat % 128 = _
      rw [lowBits_apply, low_word]
      exact Nat.mod_mod _ _
  have htop : topClear (BitVec.ofNat 32 (24 - 8 * p.val)) w (ValueIdx.ix2 s l) = BitVec.ofBool (decide ((byteOf p (w (ValueIdx.ix2 s l))).toNat < 128)) :=
    top_word _ _
  have h256 := (byteOf p (w (ValueIdx.ix2 s l))).isLt
  unfold term
  rw [hw]
  show (if topClear (BitVec.ofNat 32 (24 - 8 * p.val)) w (ValueIdx.ix2 s l) = 1#1 then _ else _) = _
  rw [htop, hlow, hlow, tabLo_apply, tabHi_apply]
  by_cases h : (byteOf p (w (ValueIdx.ix2 s l))).toNat < 128
  · rw [if_pos (by simp [h])]
    congr 1
    congr 1
    exact Fin.ext (Nat.mod_eq_of_lt h)
  · rw [if_neg (by simp [h])]
    congr 1
    congr 1
    exact Fin.ext (by show 128 + _ % 128 = (byteOf p (w (ValueIdx.ix2 s l))).toNat; omega)

end AccVal

section AccIdeal

variable (arg1 : Memref sig .tc .vmem S6x20x256 .f32) (arg3 : Memref sig .tc .vmem S20x32x1024 .i8)
  (X_arg1 : BufTy.Contents (Elt Ideal) arg1.view.ty) (X_arg3 : BufTy.Contents (Elt Ideal) arg3.view.ty) (k : Fin k1_t1_loop.trips)

/-- The distance of query `b` to item `t` of column `c`: the sum over the sub-spaces of the table entries its codes name. -/
def distAt (T : S6x20x256.Idx → EReal) (C : S20x32x1024.Idx → BitVec 8) (b : Fin 6) (t : Fin 32) (c : Fin 1024) : EReal :=
  ∑ m : Fin 20, T (ValueIdx.ix3 b m (C (ValueIdx.ix3 m t c)).toFin)

/-- The running sum of one query and one byte at an index: the sum, over the groups taken so far, of the entries the codes pick. -/
theorem accS_apply (b : Fin 6) (r l : BitVec 32) (j : S8x128.Idx) : ∀ (n : ℕ) (h : n < 20),
    accS arg1 arg3 X_arg1 X_arg3 k b r l n h j = ∑ m : Fin (n + 1), term arg1 arg3 X_arg1 X_arg3 k b r l ⟨m.val, by omega⟩ j
  | 0, h => by rw [Fin.sum_univ_one]; rfl
  | n + 1, h => by
    rw [Fin.sum_univ_castSucc]
    show accS arg1 arg3 X_arg1 X_arg3 k b r l n _ j + _ = _
    rw [accS_apply b r l j n]
    rfl

/-- An accumulator holds the distances of its byte's items. -/
theorem accOf_apply (b : Fin 6) (p : Fin 4) (s : Fin 8) (l : Fin 128) :
    accOf arg1 arg3 X_arg1 X_arg3 k b p (ValueIdx.ix2 s l)
      = distAt (tableOf arg1 X_arg1) (codesOf arg3 X_arg3) b ⟨4 * s.val + p.val, by omega⟩ (colOf k l) := by
  rw [accOf, accS_apply]
  unfold distAt
  refine Finset.sum_congr rfl fun m _ => ?_
  exact term_apply arg1 arg3 X_arg1 X_arg3 k b p m s l

end AccIdeal

end Cert.KernelIdeal.Gen

end
-- ==== Proof.PlaneValI.lean ====
/-
The scratch planes of one trip read back at an index: row `r`, half `h` and lane `l` of query `b`'s plane hold the distance
to item `2 r + h` of the trip's column `l`.
-/
module

public import proofs.«01_k».proof.Proof.AccValI

@[expose] public section

set_option maxRecDepth 8192

noncomputable section

namespace Cert.KernelIdeal.Gen

open Idealize.ShloMosaic Idealize.ShloMosaic.TcCoe

/-- A staged pair at an index: the first sum in the even half, the second in the odd. -/
theorem stageVal_apply (lo hi : FVec Ideal S8x128 .f32) (s : Fin 8) (h : Fin 2) (l : Fin 128) :
    stageVal (F := Ideal) lo hi (ValueIdx.ix4 0 s h l) = if h.val % 2 = 0 then lo (ValueIdx.ix2 s l) else hi (ValueIdx.ix2 s l) := by
  have key : ∀ (x : FVec Ideal S8x128 .f32) (j : S1x8x1x128.Idx), (j 1).val = s.val → (j 3).val = l.val →
      shapeCast S1x8x1x128 (shapeCast S1x8x128 (truncf .bf16 x bitsLt_bf16_f32) shapeCasts_S8x128_S1x8x128) shapeCasts_S1x8x128_S1x8x1x128 j = x (ValueIdx.ix2 s l) := by
    intro x j h1 h3
    have h0 : (j 0).val = 0 := by have := (j 0).isLt; simp at this; omega
    have h2 : (j 2).val = 0 := by have := (j 2).isLt; simp at this; omega
    rw [shapeCast_apply _ _ _ (ValueIdx.ix3 0 s l), shapeCast_apply _ _ _ (ValueIdx.ix2 s l)]
    · rfl
    · rw [Shape.rowMajor_val_three, Shape.rowMajor_val_two]
      show s.val * 128 + l.val = (0 * 8 + s.val) * 128 + l.val
      omega
    · rw [Shape.rowMajor_val_three, Shape.rowMajor_val_four]
      show (0 * 8 + s.val) * 128 + l.val = (((j 0).val * 8 + (j 1).val) * 1 + (j 2).val) * 128 + (j 3).val
      omega
  unfold stageVal interleaveRows
  show (if h.val % 2 = 0 then _ else _) = _
  rw [key, key] <;> rfl

section Plane

variable (arg1 : Memref sig .tc .vmem S6x20x256 .f32) (arg3 : Memref sig .tc .vmem S20x32x1024 .i8) (arg5 : Memref sig .tc .vmem S6x16x2x128 .bf16)
  (X_arg1 : BufTy.Contents (Elt Ideal) arg1.view.ty) (X_arg3 : BufTy.Contents (Elt Ideal) arg3.view.ty) (k : Fin k1_t1_loop.trips)

/-- What a trip leaves in the scratch. -/
def stageG : S6x16x2x128.Idx → EReal := fun i =>
  distAt (tableOf arg1 X_arg1) (codesOf arg3 X_arg3) (i 0)
    ⟨2 * (i 1).val + (i 2).val, by have h1 : (i 1).val < 16 := (i 1).isLt; have h2 : (i 2).val < 2 := (i 2).isLt; omega⟩ (colOf k (i 3))

/-- Each strided store puts its part of that. -/
theorem stagePiece_val (b : Fin 6) (q : Fin 2) (x : S1x8x2x128.Idx) :
    (stagePiece arg1 arg3 X_arg1 X_arg3 k b q).2 x = stageG arg1 arg3 X_arg1 X_arg3 k ((stagePiece arg1 arg3 X_arg1 X_arg3 k b q).1.emb x) := by
  obtain ⟨x0, s, h, l, rfl⟩ : ∃ (x0 : Fin 1) (s : Fin 8) (h : Fin 2) (l : Fin 128), x = ValueIdx.ix4 x0 s h l :=
    ⟨x 0, x 1, x 2, x 3, by funext a; fin_cases a <;> rfl⟩
  obtain rfl : x0 = 0 := Subsingleton.elim _ _
  show stageVal _ _ _ = _
  have hcol : ∀ (t t' : Fin 32) (b b' : Fin 6) (c c' : Fin 1024), b.val = b'.val → t.val = t'.val → c.val = c'.val →
      distAt (tableOf arg1 X_arg1) (codesOf arg3 X_arg3) b t c = distAt (tableOf arg1 X_arg1) (codesOf arg3 X_arg3) b' t' c' := by
    intro t t' b b' c c' hb ht hc
    rw [Fin.ext hb, Fin.ext ht, Fin.ext hc]
  rw [stageVal_apply, accOf_apply, accOf_apply]
  unfold stageG
  rcases (by omega : h.val = 0 ∨ h.val = 1) with hh | hh
  · rw [if_pos (by omega)]
    apply hcol
    · show b.val = b.val + 1 * 0; omega
    · show 4 * s.val + 2 * q.val = 2 * (q.val + 2 * s.val) + (0 + 1 * h.val); omega
    · show 128 * k.val + l.val = 128 * k.val + (0 + 1 * l.val); omega
  · rw [if_neg (by omega)]
    apply hcol
    · show b.val = b.val + 1 * 0; omega
    · show 4 * s.val + (2 * q.val + 1) = 2 * (q.val + 2 * s.val) + (0 + 1 * h.val); omega
    · show 128 * k.val + l.val = 128 * k.val + (0 + 1 * l.val); omega

/-- A plane read back holds the trip's distances. -/
theorem planes_apply (b : Fin 6) (r : Fin 16) (h : Fin 2) (l : Fin 128) :
    planes arg1 arg3 arg5 X_arg1 X_arg3 k b (ValueIdx.ix4 0 r h l)
      = distAt (tableOf arg1 X_arg1) (codesOf arg3 X_arg3) b ⟨2 * r.val + h.val, by omega⟩ (colOf k l) := by
  have hc : ∃ p ∈ stageList arg1 arg3 X_arg1 X_arg3 k, (Rect.unit (s := S6x16x2x128) ![b.val, 0, 0, 0] S1x16x2x128.size (by revert b; decide)).toLoadRect.idx (ValueIdx.ix4 0 r h l) ∈ p.1.set := by
    rw [← stageList_eq]
    fin_cases b
    · exact stage_cover_0 arg1 arg3 X_arg1 X_arg3 k _
    · exact stage_cover_1 arg1 arg3 X_arg1 X_arg3 k _
    · exact stage_cover_2 arg1 arg3 X_arg1 X_arg3 k _
    · exact stage_cover_3 arg1 arg3 X_arg1 X_arg3 k _
    · exact stage_cover_4 arg1 arg3 X_arg1 X_arg3 k _
    · exact stage_cover_5 arg1 arg3 X_arg1 X_arg3 k _
  unfold planes planeOf
  rw [View.readAt_writes_junk_eq_canon]
  show View.canon _ _ = _
  rw [View.canon_apply_of_pieces (stageG arg1 arg3 X_arg1 X_arg3 k) _ ?_ _ hc]
  · unfold stageG
    congr 1
    · apply Fin.ext; show 2 * (0 + 1 * r.val) + (0 + 1 * h.val) = 2 * r.val + h.val; omega
    · apply Fin.ext; show 128 * k.val + (0 + 1 * l.val) = 128 * k.val + l.val; omega
  · intro p hp
    simp only [stageList, List.mem_cons, List.not_mem_nil, or_false] at hp
    rcases hp with rfl | rfl | rfl | rfl | rfl | rfl | rfl | rfl | rfl | rfl | rfl | rfl <;> exact stagePiece_val arg1 arg3 X_arg1 X_arg3 k _ _

end Plane

end Cert.KernelIdeal.Gen

end
-- ==== Proof.TileValI.lean ====
/-
The tiles of one trip read at an index: row `r`, lane `32 g + t` of the 256-row product holds the distance of query `r % 8`
to item `t` at lane `4 (r / 8) + g` of the trip.
-/
module

public import proofs.«01_k».proof.Proof.PlaneValI
public import Idealize.ShloMosaic.Lib.MatmulPlain
public import Idealize.ShloMosaic.Lib.IdealHost

@[expose] public section

set_option maxRecDepth 8192

noncomputable section

namespace Cert.KernelIdeal.Gen

open Idealize.ShloMosaic Idealize.ShloMosaic.TcCoe

/-- The lane numbers. -/
abbrev lanes : IVec S16x128 32 := iota .tc S16x128 32 [1] iota_S16x128_d1_w32

/-- The lane test on one lane: whether `l % 4` is `g`. -/
theorem laneIs_scalar : ∀ (l : Fin 128) (g : Fin 4),
    laneIs (fun _ => BitVec.ofNat 32 l.val) (BitVec.ofNat 32 g.val) (ValueIdx.ix2 0 0) = BitVec.ofBool (decide (l.val % 4 = g.val)) := by
  decide +kernel

/-- The mask of `g` at a lane. -/
theorem laneIs_apply (g : Fin 4) (r : Fin 16) (l : Fin 128) :
    laneIs lanes (BitVec.ofNat 32 g.val) (ValueIdx.ix2 r l) = BitVec.ofBool (decide (l.val % 4 = g.val)) := by
  rw [← laneIs_scalar]
  have : lanes (ValueIdx.ix2 r l) = BitVec.ofNat 32 l.val := by
    show BitVec.ofNat 32 (0 * 128 + l.val) = _
    rw [Nat.zero_mul, Nat.zero_add]
  unfold laneIs
  simp only [cmpi, select, andi, xori, addi, remsi, broadcast, broadcastTo, this]

/-- One parity of a plane at an index. -/
theorem halfRows_apply (h : Fin 2) (st : Vec Ideal S1x16x2x128 .bf16) (r : Fin 16) (l : Fin 128) :
    halfRows (F := Ideal) h st (ValueIdx.ix2 r l) = st (ValueIdx.ix4 0 r h l) := by
  unfold halfRows
  rw [shapeCast_apply _ _ _ (ValueIdx.ix3 0 r l), shapeCast_apply _ _ _ (ValueIdx.ix4 0 r 0 l)]
  · show st _ = st _
    congr 1
    funext a
    apply Fin.ext
    fin_cases a
    · rfl
    · rfl
    · show 2 * 0 + h.val = h.val; omega
    · rfl
  · rw [Shape.rowMajor_val_three, Shape.rowMajor_val_four]
    show ((0 * 16 + r.val) * 1 + 0) * 128 + l.val = (0 * 16 + r.val) * 128 + l.val
    omega
  · rw [Shape.rowMajor_val_three, Shape.rowMajor_val_two]
    show (0 * 16 + r.val) * 128 + l.val = r.val * 128 + l.val
    omega

/-- A plane `st` holds `P`. -/
def Holds (st : Vec Ideal S1x16x2x128 .bf16) (P : Fin 32 → Fin 128 → EReal) : Prop :=
  ∀ (r : Fin 16) (h : Fin 2) (l : Fin 128), st (ValueIdx.ix4 0 r h l) = P ⟨2 * r.val + h.val, by omega⟩ l

/-- A masked plane at an index: the plane in the lanes of the mask, zero elsewhere. -/
theorem maskedRows_apply {st : Vec Ideal S1x16x2x128 .bf16} {P : Fin 32 → Fin 128 → EReal} (hP : Holds st P) (g : Fin 4) (t : Fin 32) (l : Fin 128) :
    maskedRows (F := Ideal) (laneIs lanes (BitVec.ofNat 32 g.val)) st (ValueIdx.ix2 t l) = if l.val % 4 = g.val then P t l else 0 := by
  have key : ∀ h : Fin 2, (select (laneIs lanes (BitVec.ofNat 32 g.val)) (halfRows (F := Ideal) h st) (constant S16x128 .bf16 0x0000#16) : FVec Ideal S16x128 .bf16) (ValueIdx.ix2 ⟨t.val / 2, by omega⟩ l)
      = if l.val % 4 = g.val then P ⟨2 * (t.val / 2) + h.val, by omega⟩ l else 0 := by
    intro h
    show (if laneIs lanes (BitVec.ofNat 32 g.val) _ = 1#1 then halfRows (F := Ideal) h st _ else Ideal.ofBits .bf16 0x0000#16) = _
    rw [laneIs_apply, halfRows_apply, hP, Ideal.ofBits_zero_bf16]
    by_cases hg : l.val % 4 = g.val <;> simp [hg]
  have hj : maskedRows (F := Ideal) (laneIs lanes (BitVec.ofNat 32 g.val)) st (ValueIdx.ix2 t l)
      = if t.val % 2 = 0 then (select (laneIs lanes (BitVec.ofNat 32 g.val)) (halfRows (F := Ideal) 0 st) (constant S16x128 .bf16 0x0000#16) : FVec Ideal S16x128 .bf16) (ValueIdx.ix2 ⟨t.val / 2, by omega⟩ l)
        else (select (laneIs lanes (BitVec.ofNat 32 g.val)) (halfRows (F := Ideal) 1 st) (constant S16x128 .bf16 0x0000#16) : FVec Ideal S16x128 .bf16) (ValueIdx.ix2 ⟨t.val / 2, by omega⟩ l) := by
    unfold maskedRows interleaveRows
    show (if t.val % 2 = 0 then _ else _) = _
    congr 1 <;> congr 1 <;> funext a <;> fin_cases a <;> rfl
  rw [hj, key, key]
  by_cases h2 : t.val % 2 = 0
  · rw [if_pos h2]
    simp only [show (⟨2 * (t.val / 2) + (0 : Fin 2).val, by omega⟩ : Fin 32) = t from Fin.ext (by show 2 * (t.val / 2) + 0 = t.val; omega)]
  · rw [if_neg h2]
    simp only [show (⟨2 * (t.val / 2) + (1 : Fin 2).val, by omega⟩ : Fin 32) = t from Fin.ext (by show 2 * (t.val / 2) + 1 = t.val; omega)]

/-- The lane of a column of two planes side by side. -/
def laneOf (c : Fin 256) : Fin 128 := ⟨c.val % 128, Nat.mod_lt _ (by decide)⟩

/-- Two masked planes side by side at an index. -/
theorem maskedPair_apply {a b : Vec Ideal S1x16x2x128 .bf16} {P Q : Fin 32 → Fin 128 → EReal} (hP : Holds a P) (hQ : Holds b Q) (g : Fin 4) (t : Fin 32) (c : Fin 256) :
    maskedPair (F := Ideal) (laneIs lanes (BitVec.ofNat 32 g.val)) a b (ValueIdx.ix2 t c)
      = if (laneOf c).val % 4 = g.val then (if c.val < 128 then P else Q) t (laneOf c) else 0 := by
  unfold maskedPair
  by_cases h : c.val < 128
  · rw [concatenate_pair_apply_left (s₁ := S32x128) (s₂ := S32x128) 1 _ _ _ (ValueIdx.ix2 t c) rfl (ValueIdx.ix2 t (laneOf c)) (by
      intro b; fin_cases b
      · rfl
      · show c.val % 128 = c.val; omega), maskedRows_apply hP, if_pos h]
  · rw [concatenate_pair_apply_right (s₁ := S32x128) (s₂ := S32x128) 1 _ _ _ (ValueIdx.ix2 t c) rfl rfl (ValueIdx.ix2 t (laneOf c)) (by
      intro b hb; fin_cases b
      · rfl
      · exact absurd rfl hb) (by show c.val % 128 + 128 = c.val; omega), maskedRows_apply hQ, if_neg h]

/-- The four masks one below the other at an index. -/
theorem maskedAll_apply {a b : Vec Ideal S1x16x2x128 .bf16} {P Q : Fin 32 → Fin 128 → EReal} (hP : Holds a P) (hQ : Holds b Q) (R : Fin 128) (c : Fin 256) :
    maskedAll (F := Ideal) lanes a b (ValueIdx.ix2 R c)
      = if (laneOf c).val % 4 = R.val / 32 then (if c.val < 128 then P else Q) ⟨R.val % 32, by omega⟩ (laneOf c) else 0 := by
  have key : ∀ g : Fin 4, R.val / 32 = g.val → maskedAll (F := Ideal) lanes a b (ValueIdx.ix2 R c)
      = maskedPair (F := Ideal) (laneIs lanes (BitVec.ofNat 32 g.val)) a b (ValueIdx.ix2 ⟨R.val % 32, by omega⟩ c) := by
    intro g hg
    unfold maskedAll
    refine concatenate_apply_piece (t := S128x256) 0 _ _ _ g.val ?_ S32x256 (maskedPair (F := Ideal) (laneIs lanes (BitVec.ofNat 32 g.val)) a b) ?_ rfl (32 * g.val) ?_ _ ?_ ?_
    · show g.val < 4; omega
    · fin_cases g <;> rfl
    · fin_cases g <;> rfl
    · intro b hb; fin_cases b
      · exact absurd rfl hb
      · rfl
    · show 32 * g.val + R.val % 32 = R.val; omega
  rw [key ⟨R.val / 32, by omega⟩ rfl, maskedPair_apply hP hQ]

/-- Selector `j` takes query `2 j` or `2 j + 1` of lane group `r / 8` to row `r`. -/
def IsSel (j : Fin 3) (s : Vec Ideal S1x256x256 .bf16) : Prop :=
  ∀ (r c : Fin 256), s (ValueIdx.ix3 0 r c) = if (laneOf c).val / 4 = r.val / 8 ∧ r.val % 8 = 2 * j.val + c.val / 128 then (1 : EReal) else 0

/-- The product with a selector matrix at an index: the one entry the matrix picks for a row of its two queries, zero for the others. -/
theorem selected_apply {a b : Vec Ideal S1x16x2x128 .bf16} {P Q : Fin 32 → Fin 128 → EReal} (hP : Holds a P) (hQ : Holds b Q)
    {s : Vec Ideal S1x256x256 .bf16} {j : Fin 3} (hs : IsSel j s) (r : Fin 256) (R : Fin 128) :
    selected (F := Ideal) lanes a b s (ValueIdx.ix2 r R)
      = if r.val % 8 / 2 = j.val then (if r.val % 2 = 0 then P else Q) ⟨R.val % 32, by omega⟩ ⟨4 * (r.val / 8) + R.val / 32, by omega⟩ else 0 := by
  have hm : selected (F := Ideal) lanes a b s (ValueIdx.ix2 r R)
      = Ideal.ofBits .f32 0x00000000#32 + ∑ c : Fin 256, (shapeCast S256x256 s shapeCasts_S1x256x256_S256x256 : FVec Ideal S256x256 .bf16) (ValueIdx.ix2 r c) * maskedAll (F := Ideal) lanes a b (ValueIdx.ix2 R c) :=
    Ideal.matmul_transposedRhs_apply none _ _ _ r R
  rw [hm, Ideal.ofBits_zero_f32, zero_add]
  have ht : ∀ c : Fin 256, (shapeCast S256x256 s shapeCasts_S1x256x256_S256x256 : FVec Ideal S256x256 .bf16) (ValueIdx.ix2 r c) * maskedAll (F := Ideal) lanes a b (ValueIdx.ix2 R c)
      = if c.val = 128 * (r.val % 2) + (4 * (r.val / 8) + R.val / 32) ∧ r.val % 8 / 2 = j.val then
          (if r.val % 2 = 0 then P else Q) ⟨R.val % 32, by omega⟩ ⟨4 * (r.val / 8) + R.val / 32, by omega⟩ else 0 := by
    intro c
    rw [maskedAll_apply hP hQ, show (shapeCast S256x256 s shapeCasts_S1x256x256_S256x256 : FVec Ideal S256x256 .bf16) (ValueIdx.ix2 r c) = s (ValueIdx.ix3 0 r c) from shapeCast_1rc_rc _ _ _ _, hs]
    have hl : (laneOf c).val = c.val % 128 := rfl
    by_cases h1 : (laneOf c).val / 4 = r.val / 8 ∧ r.val % 8 = 2 * j.val + c.val / 128
    · rw [if_pos h1, one_mul]
      by_cases h2 : (laneOf c).val % 4 = R.val / 32
      · have h4 : c.val = 128 * (r.val % 2) + (4 * (r.val / 8) + R.val / 32) ∧ r.val % 8 / 2 = j.val := by omega
        rw [if_pos h2, if_pos h4]
        have hlane : laneOf c = ⟨4 * (r.val / 8) + R.val / 32, by omega⟩ := Fin.ext (by show (laneOf c).val = 4 * (r.val / 8) + R.val / 32; omega)
        rw [hlane]
        by_cases h3 : c.val < 128
        · rw [if_pos h3, if_pos (show r.val % 2 = 0 by omega)]
        · rw [if_neg h3, if_neg (show ¬ r.val % 2 = 0 by omega)]
      · rw [if_neg h2, if_neg (by omega)]
    · rw [if_neg h1, zero_mul, if_neg (by omega)]
  rw [Finset.sum_congr rfl fun c _ => ht c]
  by_cases hj : r.val % 8 / 2 = j.val
  · rw [if_pos hj, Finset.sum_eq_single (⟨128 * (r.val % 2) + (4 * (r.val / 8) + R.val / 32), by omega⟩ : Fin 256)]
    · rw [if_pos ⟨rfl, hj⟩]
    · intro c _ hc
      exact if_neg fun h => hc (Fin.ext h.1)
    · intro h; exact absurd (Finset.mem_univ _) h
  · rw [if_neg hj]
    exact Finset.sum_eq_zero fun c _ => if_neg fun h => hj h.2

/-- The tiles at an index. -/
theorem tileRows_apply {st : Fin 6 → Vec Ideal S1x16x2x128 .bf16} {P : Fin 6 → Fin 32 → Fin 128 → EReal} (hP : ∀ b, Holds (st b) (P b))
    {s : Fin 3 → Vec Ideal S1x256x256 .bf16} (hs : ∀ j, IsSel j (s j)) (r : Fin 256) (R : Fin 128) (b : Fin 6) (hb : r.val % 8 = b.val) :
    tileRows (F := Ideal) lanes st s (ValueIdx.ix2 r R) = P b ⟨R.val % 32, by omega⟩ ⟨4 * (r.val / 8) + R.val / 32, by omega⟩ := by
  show (selected (F := Ideal) lanes (st 0) (st 1) (s 0) (ValueIdx.ix2 r R) + selected (F := Ideal) lanes (st 2) (st 3) (s 1) (ValueIdx.ix2 r R))
    + selected (F := Ideal) lanes (st 4) (st 5) (s 2) (ValueIdx.ix2 r R) = _
  rw [selected_apply (hP 0) (hP 1) (hs 0), selected_apply (hP 2) (hP 3) (hs 1), selected_apply (hP 4) (hP 5) (hs 2)]
  have hr : r.val % 2 = b.val % 2 := by omega
  simp only [hb, hr]
  fin_cases b <;> simp

end Cert.KernelIdeal.Gen

end
-- ==== Proof.AdcValI.lean ====
/-
What the `adc` body leaves in its output block: column `y` of query `b` holds the distance to item `y % 32` of column
`y / 32` of the block of codes.
-/
module

public import proofs.«01_k».proof.Proof.TileValI
public import proofs.«01_k».proof.Proof.AdcI

@[expose] public section

set_option maxRecDepth 8192

noncomputable section

namespace Cert.KernelIdeal.Gen

open Idealize.ShloMosaic Idealize.ShloMosaic.TcCoe Idealize.ShloMosaic.Tactic

/-- The output block from the table and the block of codes. -/
def adcG (T : S6x20x256.Idx → EReal) (C : S20x32x1024.Idx → BitVec 8) : S6x32768.Idx → EReal := fun i =>
  distAt T C (i 0) ⟨(i 1).val % 32, Nat.mod_lt _ (by decide)⟩ ⟨(i 1).val / 32, by have h1 : (i 1).val < 32768 := (i 1).isLt; omega⟩

section Tiles

variable (arg1 : Memref sig .tc .vmem S6x20x256 .f32) (arg2 : Memref sig .tc .vmem S3x256x256 .bf16) (arg3 : Memref sig .tc .vmem S20x32x1024 .i8)
  (arg5 : Memref sig .tc .vmem S6x16x2x128 .bf16)
  (X_arg1 : BufTy.Contents (Elt Ideal) arg1.view.ty) (X_arg2 : BufTy.Contents (Elt Ideal) arg2.view.ty) (X_arg3 : BufTy.Contents (Elt Ideal) arg3.view.ty) (k : Fin k1_t1_loop.trips)

/-- Each tile stored is its part of the output block. -/
theorem tilePiece_val (hs : ∀ j, IsSel j (selAt (F := Ideal) arg2 X_arg2 j)) (t : Fin 32)
    (x : (tilePiece (F := Ideal) arg1 arg2 arg3 arg5 lanes X_arg1 X_arg2 X_arg3 k t).1.shape.Idx) :
    (tilePiece (F := Ideal) arg1 arg2 arg3 arg5 lanes X_arg1 X_arg2 X_arg3 k t).2 x
      = adcG (tableOf arg1 X_arg1) (codesOf arg3 X_arg3) ((tilePiece (F := Ideal) arg1 arg2 arg3 arg5 lanes X_arg1 X_arg2 X_arg3 k t).1.emb x) := by
  obtain ⟨b, l, rfl⟩ : ∃ (b : Fin 6) (l : Fin 128), x = ValueIdx.ix2 b l := ⟨x 0, x 1, by funext a; fin_cases a <;> rfl⟩
  have hk := trip_lt k
  have hslice : ∀ (y : FVec Ideal S256x128 .bf16) h, (extractStridedSlice S6x128 ![8 * t.val, 0] y h) (ValueIdx.ix2 b l) = y (ValueIdx.ix2 ⟨8 * t.val + b.val, by omega⟩ l) := by
    intro y h
    show y _ = y _
    congr 1
    funext a
    apply Fin.ext
    fin_cases a
    · rfl
    · show 0 + l.val = l.val; omega
  have hv : (tilePiece (F := Ideal) arg1 arg2 arg3 arg5 lanes X_arg1 X_arg2 X_arg3 k t).2 (ValueIdx.ix2 b l)
      = tileRows (F := Ideal) lanes (planes arg1 arg3 arg5 X_arg1 X_arg3 k) (selAt arg2 X_arg2) (ValueIdx.ix2 ⟨8 * t.val + b.val, by omega⟩ l) :=
    hslice (tileRows (F := Ideal) lanes (planes arg1 arg3 arg5 X_arg1 X_arg3 k) (selAt arg2 X_arg2)) (by clear hslice; revert t; decide)
  rw [hv, tileRows_apply (P := fun b t l => distAt (tableOf arg1 X_arg1) (codesOf arg3 X_arg3) b t (colOf k l)) (fun b r h l => planes_apply arg1 arg3 arg5 X_arg1 X_arg3 k b r h l) hs _ _ b (by show (8 * t.val + b.val) % 8 = b.val; omega)]
  have he : ∀ a, (((tilePiece (F := Ideal) arg1 arg2 arg3 arg5 lanes X_arg1 X_arg2 X_arg3 k t).1.emb (ValueIdx.ix2 b l)) a).val
      = (![0, 4096 * k.val + 128 * t.val] : Fin 2 → ℕ) a + 1 * (ValueIdx.ix2 b l a).val := by
    intro a
    rw [← k1_off21_eq k t]
    rfl
  have h0 : (((tilePiece (F := Ideal) arg1 arg2 arg3 arg5 lanes X_arg1 X_arg2 X_arg3 k t).1.emb (ValueIdx.ix2 b l)) 0).val = b.val := by
    rw [he]; show 0 + 1 * b.val = b.val; omega
  have h1 : (((tilePiece (F := Ideal) arg1 arg2 arg3 arg5 lanes X_arg1 X_arg2 X_arg3 k t).1.emb (ValueIdx.ix2 b l)) 1).val = 4096 * k.val + 128 * t.val + l.val := by
    rw [he]; show 4096 * k.val + 128 * t.val + 1 * l.val = _; omega
  unfold adcG
  have hcong : ∀ (t t' : Fin 32) (b b' : Fin 6) (c c' : Fin 1024), b.val = b'.val → t.val = t'.val → c.val = c'.val →
      distAt (tableOf arg1 X_arg1) (codesOf arg3 X_arg3) b t c = distAt (tableOf arg1 X_arg1) (codesOf arg3 X_arg3) b' t' c' := by
    intro t t' b b' c c' hb ht hc
    rw [Fin.ext hb, Fin.ext ht, Fin.ext hc]
  apply hcong
  · exact h0.symm
  · show l.val % 32 = _ % 32
    rw [h1]; omega
  · show 128 * k.val + (4 * ((8 * t.val + b.val) / 8) + l.val / 32) = _ / 32
    rw [h1]; omega

/-- So is each tile of the trips before `n`. -/
theorem piecesBefore_val (𝒱 : Variants) (c : Dev nD) (bd : Option 𝒱.V) (i : grid1.Coords) (harg1 : arg1.IsWhole) (harg2 : arg2.IsWhole) (harg3 : arg3.IsWhole) (arg4 : Memref sig .tc .vmem S6x32768 .bf16) (harg4 : arg4.IsWhole) (harg5 : arg5.IsWhole)
    (hs : ∀ j, IsSel j (selAt (F := Ideal) arg2 X_arg2 j)) : ∀ (n : ℕ),
    ∀ p ∈ piecesBefore (F := Ideal) 𝒱 c bd i arg1 harg1 arg2 harg2 arg3 harg3 arg4 harg4 arg5 harg5 lanes X_arg1 X_arg2 X_arg3 n,
      ∀ x, p.2 x = adcG (tableOf arg1 X_arg1) (codesOf arg3 X_arg3) (p.1.emb x)
  | 0 => by intro p hp; simp [piecesBefore] at hp
  | n + 1 => by
    intro p hp
    rw [piecesBefore, List.mem_append] at hp
    rcases hp with hp | hp
    · by_cases h : n < k1_t1_loop.trips
      · rw [dif_pos h, tripPieces_eq, List.mem_ofFn] at hp
        obtain ⟨t, rfl⟩ := hp
        exact tilePiece_val arg1 arg2 arg3 arg5 X_arg1 X_arg2 X_arg3 ⟨n, h⟩ hs t.rev
      · rw [dif_neg h] at hp; simp at hp
    · exact piecesBefore_val 𝒱 c bd i harg1 harg2 harg3 arg4 harg4 harg5 hs n p hp

end Tiles

/-- The stores of a run of the body are those of its eight trips. -/
theorem run_pieces (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole)
    (x0 : Vec Ideal S6x20x256 .f32) (x1 : Vec Ideal S3x256x256 .bf16) (x2 : Vec Ideal S20x32x1024 .i8) :
    (kernelRun1_A (F := Ideal) c i arg1 harg1 arg2 harg2 arg3 harg3 arg4 harg4 arg5 harg5 x0 x1 x2).1
      = piecesBefore (F := Ideal) Variants.none c none i arg1 harg1 arg2 harg2 arg3 harg3 arg4 harg4 arg5 harg5 lanes (harg1.unread x0) (harg2.unread x1) (harg3.unread x2) k1_t1_loop.trips := by
  unfold kernelRun1_A
  rfl

/-- What the run leaves in the output's staging buffer, given that the second operand holds the selectors. -/
theorem out1_eq (c : Dev nD) (i : grid1.Coords) (arg1 : Memref sig .tc .vmem S6x20x256 .f32) (harg1 : arg1.IsWhole) (arg2 : Memref sig .tc .vmem S3x256x256 .bf16) (harg2 : arg2.IsWhole) (arg3 : Memref sig .tc .vmem S20x32x1024 .i8) (harg3 : arg3.IsWhole) (arg4 : Memref sig .tc .vmem S6x32768 .bf16) (harg4 : arg4.IsWhole) (arg5 : Memref sig .tc .vmem S6x16x2x128 .bf16) (harg5 : arg5.IsWhole)
    (x0 : Vec Ideal S6x20x256 .f32) (x1 : Vec Ideal S3x256x256 .bf16) (x2 : Vec Ideal S20x32x1024 .i8)
    (hx1 : ∀ (j : Fin 3) (r q : Fin 256), x1 (ValueIdx.ix3 j r q) = if (laneOf q).val / 4 = r.val / 8 ∧ r.val % 8 = 2 * j.val + q.val / 128 then (1 : EReal) else 0) :
    out1_A_3 (F := Ideal) c i arg1 harg1 arg2 harg2 arg3 harg3 arg4 harg4 arg5 harg5 x0 x1 x2 = adcG x0 x2 := by
  have hs : ∀ j, IsSel j (selAt (F := Ideal) arg2 (harg2.unread x1) j) := by
    intro j r q
    rw [← hx1]
    show arg2.view.read (Elt Ideal) (harg2.unread x1) _ = _
    rw [harg2.read_unread]
    congr 1
    funext a
    apply Fin.ext
    fin_cases a
    · rfl
    · show 0 + 1 * r.val = r.val; omega
    · show 0 + 1 * q.val = q.val; omega
  have hT : tableOf arg1 (harg1.unread x0) = x0 := harg1.read_unread x0
  have hC : codesOf arg3 (harg3.unread x2) = x2 := harg3.read_unread x2
  funext y
  unfold out1_A_3
  rw [View.read_writes_junk_apply_eq_canon]
  refine View.canon_apply_of_pieces (adcG x0 x2) _ ?_ y (cover1_A_3 c i arg1 harg1 arg2 harg2 arg3 harg3 arg4 harg4 arg5 harg5 x0 x1 x2 y)
  intro p hp
  rw [run_pieces] at hp
  rw [← hT, ← hC]
  exact piecesBefore_val arg1 arg2 arg3 arg5 (harg1.unread x0) (harg2.unread x1) (harg3.unread x2) Variants.none c none i harg1 harg2 harg3 arg4 harg4 harg5 hs _ p hp

end Cert.KernelIdeal.Gen

end
-- ==== Proof.SelI.lean ====
/-
The selector matrices the host builds for the `adc` call (KernelIdeal), in closed form: row `r`, column `q` of matrix `j` is one
exactly when lane `q % 128` belongs to code group `r / 8` and row `r % 8` is query `2 j + q / 128`.
-/
module

public import proofs.«01_k».proof.Proof.RunI
public import Idealize.ShloMosaic.Lib.StableHlo.RunRead
public import Idealize.ShloMosaic.Lib.ValueIdx
public import Idealize.ShloMosaic.Lib.Pipeline.Value

@[expose] public section

set_option maxRecDepth 8192

noncomputable section

namespace Cert.KernelIdeal.Gen

open Idealize.ShloMosaic Idealize.ShloMosaic.TcCoe

variable {F : FTy → Type} [FloatOps F]

/-- The host's floor division of each entry of `x` by `c`. -/
def fdiv (c : IVec S_ 32) (x : IVec S256 32) : IVec S256 32 :=
  select
    (andi (cmpi .ne (signi x) (broadcastInDim S256 ![] bcast_S_S256 (signi c)))
      (cmpi .ne (Host.remsi x (broadcastInDim S256 ![] bcast_S_S256 c)) (broadcastInDim S256 ![] bcast_S_S256 (constantI S_ 32 0#32))))
    (subi (Host.divsi x (broadcastInDim S256 ![] bcast_S_S256 c)) (broadcastInDim S256 ![] bcast_S_S256 (constantI S_ 32 1#32)))
    (Host.divsi x (broadcastInDim S256 ![] bcast_S_S256 c))

/-- The divisor the host's remainder divides by: `c`, or one when `c` is zero. -/
def divisor (c : IVec S_ 32) : IVec S_ 32 :=
  select (cmpi .eq c (constantI S_ 32 0#32)) (constantI S_ 32 1#32) c

/-- The host's remainder of each entry of `x` by `c`. -/
def fmod (c : IVec S_ 32) (x : IVec S256 32) : IVec S256 32 :=
  select
    (andi
      (cmpi .ne (cmpi .slt (Host.remsi x (broadcastInDim S256 ![] bcast_S_S256 (divisor c))) (broadcastInDim S256 ![] bcast_S_S256 (constantI S_ 32 0#32)))
        (broadcastInDim S256 ![] bcast_S_S256 (cmpi .slt (divisor c) (constantI S_ 32 0#32))))
      (cmpi .ne (Host.remsi x (broadcastInDim S256 ![] bcast_S_S256 (divisor c))) (broadcastInDim S256 ![] bcast_S_S256 (constantI S_ 32 0#32))))
    (addi (Host.remsi x (broadcastInDim S256 ![] bcast_S_S256 (divisor c))) (broadcastInDim S256 ![] bcast_S_S256 (divisor c)))
    (Host.remsi x (broadcastInDim S256 ![] bcast_S_S256 (divisor c)))

/-- The numbers 0 to 255. -/
def iota256 : IVec S256 32 := iotaInDim S256 32 0
/-- A row's group of eight. -/
def rowGroup : IVec S256 32 := fdiv (constantI S_ 32 8#32) iota256
/-- A column's lane. -/
def lane256 : IVec S256 32 := fmod (constantI S_ 32 128#32) iota256
/-- A column's group of four lanes. -/
def laneGroup : IVec S256 32 := fdiv (constantI S_ 32 4#32) lane256
/-- A row's place in its group. -/
def rowQuery : IVec S256 32 := fmod (constantI S_ 32 8#32) iota256
/-- Which half of the columns a column is in. -/
def half256 : IVec S256 32 := fdiv (constantI S_ 32 128#32) iota256
/-- A vector as one column. -/
def asColumn (x : IVec S256 32) : IVec S256x1 32 := broadcastInDim S256x1 ![0] bcast_S256_S256x1_0 x

/-- Row `r` belongs to group `r / 8`. -/
theorem rowGroup_apply : ∀ r : Fin 256, rowGroup (ValueIdx.ix1 r) = BitVec.ofNat 32 (r.val / 8) := by decide +kernel
/-- Column `q` belongs to group `q % 128 / 4`. -/
theorem laneGroup_apply : ∀ q : Fin 256, laneGroup (ValueIdx.ix1 q) = BitVec.ofNat 32 (q.val % 128 / 4) := by decide +kernel
/-- Row `r` is for query `r % 8`. -/
theorem rowQuery_apply : ∀ r : Fin 256, rowQuery (ValueIdx.ix1 r) = BitVec.ofNat 32 (r.val % 8) := by decide +kernel
/-- Column `q` lies in half `q / 128`. -/
theorem half256_apply : ∀ q : Fin 256, half256 (ValueIdx.ix1 q) = BitVec.ofNat 32 (q.val / 128) := by decide +kernel

section Stretches

variable (V : Valuation τ sig (Elt F))

/-- What each stretch of host operations computes, of the contents it starts from. -/
theorem after_v8 : StableHlo.after hostOps1_1 V (Proc.devRef .tc main_v8) = fdiv (V (Proc.devRef .tc main_c)) (V (Proc.devRef .tc main_v6)) := by
  after_reads_simp
  simp -implicitDefEqProofs only [StableHlo.TRef.toBuf, StableHlo.TRef.ofBuf, cast_cast, cast_eq]
  rfl
theorem after_v10 : StableHlo.after hostOps1_3 V (Proc.devRef .tc main_v10) = fmod (V (Proc.devRef .tc main_c_0)) (V (Proc.devRef .tc main_v7)) := by
  after_reads_simp
  simp -implicitDefEqProofs only [StableHlo.TRef.toBuf, StableHlo.TRef.ofBuf, cast_cast, cast_eq]
  rfl
theorem after_v11 : StableHlo.after hostOps1_5 V (Proc.devRef .tc main_v11) = fdiv (V (Proc.devRef .tc main_c_1)) (V (Proc.devRef .tc main_v10)) := by
  after_reads_simp
  simp -implicitDefEqProofs only [StableHlo.TRef.toBuf, StableHlo.TRef.ofBuf, cast_cast, cast_eq]
  rfl
theorem after_v16 : StableHlo.after hostOps1_7 V (Proc.devRef .tc main_v16) = fmod (V (Proc.devRef .tc main_c_2)) (V (Proc.devRef .tc main_v6)) := by
  after_reads_simp
  simp -implicitDefEqProofs only [StableHlo.TRef.toBuf, StableHlo.TRef.ofBuf, cast_cast, cast_eq]
  rfl
theorem after_v18 : StableHlo.after hostOps1_9 V (Proc.devRef .tc main_v18) = fdiv (V (Proc.devRef .tc main_c_3)) (V (Proc.devRef .tc main_v7)) := by
  after_reads_simp
  simp -implicitDefEqProofs only [StableHlo.TRef.toBuf, StableHlo.TRef.ofBuf, cast_cast, cast_eq]
  rfl
theorem after_v26 : StableHlo.after hostOps1_11 V (Proc.devRef .tc main_v26) = fmod (V (Proc.devRef .tc main_c_5)) (V (Proc.devRef .tc main_v6)) := by
  after_reads_simp
  simp -implicitDefEqProofs only [StableHlo.TRef.toBuf, StableHlo.TRef.ofBuf, cast_cast, cast_eq]
  rfl
theorem after_v28 : StableHlo.after hostOps1_13 V (Proc.devRef .tc main_v28) = fdiv (V (Proc.devRef .tc main_c_6)) (V (Proc.devRef .tc main_v7)) := by
  after_reads_simp
  simp -implicitDefEqProofs only [StableHlo.TRef.toBuf, StableHlo.TRef.ofBuf, cast_cast, cast_eq]
  rfl
theorem after_v36 : StableHlo.after hostOps1_15 V (Proc.devRef .tc main_v36) = fmod (V (Proc.devRef .tc main_c_8)) (V (Proc.devRef .tc main_v6)) := by
  after_reads_simp
  simp -implicitDefEqProofs only [StableHlo.TRef.toBuf, StableHlo.TRef.ofBuf, cast_cast, cast_eq]
  rfl
theorem after_v38 : StableHlo.after hostOps1_17 V (Proc.devRef .tc main_v38) = fdiv (V (Proc.devRef .tc main_c_9)) (V (Proc.devRef .tc main_v7)) := by
  after_reads_simp
  simp -implicitDefEqProofs only [StableHlo.TRef.toBuf, StableHlo.TRef.ofBuf, cast_cast, cast_eq]
  rfl

theorem after_v9 : StableHlo.after hostOps1_2 V (Proc.devRef .tc main_v9) = asColumn (V (Proc.devRef .tc main_v8)) := by
  after_reads_simp
  rfl
theorem after_v17 : StableHlo.after hostOps1_8 V (Proc.devRef .tc main_v17) = asColumn (V (Proc.devRef .tc main_v16)) := by
  after_reads_simp
  rfl
theorem after_v27 : StableHlo.after hostOps1_12 V (Proc.devRef .tc main_v27) = asColumn (V (Proc.devRef .tc main_v26)) := by
  after_reads_simp
  rfl
theorem after_v37 : StableHlo.after hostOps1_16 V (Proc.devRef .tc main_v37) = asColumn (V (Proc.devRef .tc main_v36)) := by
  after_reads_simp
  rfl

/-- Equality of a column of row numbers with a row of column numbers, at every pair. -/
def eqAt (c : IVec S256x1 32) (r : IVec S256 32) : IVec S256x256 1 :=
  cmpi .eq (broadcastInDim S256x256 ![0, 1] bcast_S256x1_S256x256_0_1 c)
    (broadcastInDim S256x256 ![0, 1] bcast_S1x256_S256x256_0_1 (broadcastInDim S1x256 ![1] bcast_S256_S1x256_1 r))

/-- Whether a row's group is a column's group of lanes. -/
def sameGroup : IVec S256x256 1 := eqAt (asColumn rowGroup) laneGroup

/-- One selector as a bit: `m` and the query test against `r` shifted by `n`. -/
def selBit (n : BitVec 32) (m : IVec S256x256 1) (c : IVec S256x1 32) (r : IVec S256 32) : IVec S256x256 1 :=
  andi m (eqAt c (addi (broadcastInDim S256 ![] bcast_S_S256 (constantI S_ 32 n)) r))

theorem after_v15 : StableHlo.after hostOps1_6 V (Proc.devRef .tc main_v15) = eqAt (V (Proc.devRef .tc main_v9)) (V (Proc.devRef .tc main_v11)) := by
  after_reads_simp
  rfl
theorem after_v25 : StableHlo.after hostOps1_10 V (Proc.devRef .tc main_v25) = selBit 0#32 (V (Proc.devRef .tc main_v15)) (V (Proc.devRef .tc main_v17)) (V (Proc.devRef .tc main_v18)) := by
  after_reads_simp
  rfl
theorem after_v35 : StableHlo.after hostOps1_14 V (Proc.devRef .tc main_v35) = selBit 2#32 (V (Proc.devRef .tc main_v15)) (V (Proc.devRef .tc main_v27)) (V (Proc.devRef .tc main_v28)) := by
  after_reads_simp
  rfl
theorem after_v51 : StableHlo.after hostOps1_18 V (Proc.devRef .tc main_v51) = transpose S20x32x131072 [1, 2, 0] (V (Proc.devRef .tc main_arg2)) transposes_S131072x20x32_S20x32x131072_1_2_0 := by
  after_reads_simp
theorem after_v50 : StableHlo.after hostOps1_18 V (Proc.devRef .tc main_v50) = uitofp .bf16 (concatenate S3x256x256 0
    [⟨S1x256x256, broadcastInDim S1x256x256 ![1, 2] bcast_S256x256_S1x256x256_1_2 (V (Proc.devRef .tc main_v25))⟩,
     ⟨S1x256x256, broadcastInDim S1x256x256 ![1, 2] bcast_S256x256_S1x256x256_1_2 (V (Proc.devRef .tc main_v35))⟩,
     ⟨S1x256x256, broadcastInDim S1x256x256 ![1, 2] bcast_S256x256_S1x256x256_1_2
        (selBit 4#32 (V (Proc.devRef .tc main_v15)) (V (Proc.devRef .tc main_v37)) (V (Proc.devRef .tc main_v38)))⟩]
    concatenates_S1x256x256_S1x256x256_S1x256x256_S3x256x256_d0 : IVec S3x256x256 1) := by
  after_reads_simp
  rfl

end Stretches
section Chain

variable (m : (ℓ : Loc nD τ sig) → Buf (Elt F) ℓ) (ρ : Dev nD → PrngReg)

/-- What the buffers hold at the boundaries between the stretches, one after the other. -/
theorem at_c (c : Dev nD) : W3 m ρ c (Proc.devRef .tc main_c) = constantI S_ 32 8#32 :=
  by show StableHlo.after hostOps1 _ _ = _; after_reads_simp
theorem at_c_0 (c : Dev nD) : W5 m ρ c (Proc.devRef .tc main_c_0) = constantI S_ 32 128#32 :=
  by show StableHlo.after hostOps1_2 _ _ = _; after_reads_simp
theorem at_c_1 (c : Dev nD) : W7 m ρ c (Proc.devRef .tc main_c_1) = constantI S_ 32 4#32 :=
  by show StableHlo.after hostOps1_4 _ _ = _; after_reads_simp
theorem at_c_2 (c : Dev nD) : W9 m ρ c (Proc.devRef .tc main_c_2) = constantI S_ 32 8#32 :=
  by show StableHlo.after hostOps1_6 _ _ = _; after_reads_simp
theorem at_c_3 (c : Dev nD) : W11 m ρ c (Proc.devRef .tc main_c_3) = constantI S_ 32 128#32 :=
  by show StableHlo.after hostOps1_8 _ _ = _; after_reads_simp
theorem at_c_5 (c : Dev nD) : W13 m ρ c (Proc.devRef .tc main_c_5) = constantI S_ 32 8#32 :=
  by show StableHlo.after hostOps1_10 _ _ = _; after_reads_simp
theorem at_c_6 (c : Dev nD) : W15 m ρ c (Proc.devRef .tc main_c_6) = constantI S_ 32 128#32 :=
  by show StableHlo.after hostOps1_12 _ _ = _; after_reads_simp
theorem at_c_8 (c : Dev nD) : W17 m ρ c (Proc.devRef .tc main_c_8) = constantI S_ 32 8#32 :=
  by show StableHlo.after hostOps1_14 _ _ = _; after_reads_simp
theorem at_c_9 (c : Dev nD) : W19 m ρ c (Proc.devRef .tc main_c_9) = constantI S_ 32 128#32 :=
  by show StableHlo.after hostOps1_16 _ _ = _; after_reads_simp
theorem at_v6 (c : Dev nD) : W3 m ρ c (Proc.devRef .tc main_v6) = iota256 :=
  by show StableHlo.after hostOps1 _ _ = _; after_reads_simp; rfl
theorem at_v7 (c : Dev nD) : W3 m ρ c (Proc.devRef .tc main_v7) = iota256 :=
  by show StableHlo.after hostOps1 _ _ = _; after_reads_simp; rfl
theorem at_v8 (c : Dev nD) : W4 m ρ c (Proc.devRef .tc main_v8) = rowGroup :=
  (after_v8 (W3 m ρ c)).trans (congrArg₂ fdiv (at_c m ρ c) (at_v6 m ρ c))
theorem at_v9 (c : Dev nD) : W5 m ρ c (Proc.devRef .tc main_v9) = asColumn rowGroup :=
  (after_v9 (W4 m ρ c)).trans (congrArg asColumn (at_v8 m ρ c))
theorem at_v10 (c : Dev nD) : W6 m ρ c (Proc.devRef .tc main_v10) = lane256 :=
  (after_v10 (W5 m ρ c)).trans (congrArg₂ fmod (at_c_0 m ρ c) (((W5_of m ρ c main_v7 (by decide)).trans <| W4_of m ρ c main_v7 (by decide)).trans (at_v7 m ρ c)))
theorem at_v11 (c : Dev nD) : W8 m ρ c (Proc.devRef .tc main_v11) = laneGroup :=
  (after_v11 (W7 m ρ c)).trans (congrArg₂ fdiv (at_c_1 m ρ c) ((W7_of m ρ c main_v10 (by decide)).trans (at_v10 m ρ c)))
theorem at_v15 (c : Dev nD) : W9 m ρ c (Proc.devRef .tc main_v15) = sameGroup :=
  (after_v15 (W8 m ρ c)).trans (congrArg₂ eqAt (((W8_of m ρ c main_v9 (by decide)).trans <| (W7_of m ρ c main_v9 (by decide)).trans <| W6_of m ρ c main_v9 (by decide)).trans (at_v9 m ρ c)) (at_v11 m ρ c))
theorem at_v16 (c : Dev nD) : W10 m ρ c (Proc.devRef .tc main_v16) = rowQuery :=
  (after_v16 (W9 m ρ c)).trans (congrArg₂ fmod (at_c_2 m ρ c) (((W9_of m ρ c main_v6 (by decide)).trans <| (W8_of m ρ c main_v6 (by decide)).trans <| (W7_of m ρ c main_v6 (by decide)).trans <| (W6_of m ρ c main_v6 (by decide)).trans <| (W5_of m ρ c main_v6 (by decide)).trans <| W4_of m ρ c main_v6 (by decide)).trans (at_v6 m ρ c)))
theorem at_v17 (c : Dev nD) : W11 m ρ c (Proc.devRef .tc main_v17) = asColumn rowQuery :=
  (after_v17 (W10 m ρ c)).trans (congrArg asColumn (at_v16 m ρ c))
theorem at_v18 (c : Dev nD) : W12 m ρ c (Proc.devRef .tc main_v18) = half256 :=
  (after_v18 (W11 m ρ c)).trans (congrArg₂ fdiv (at_c_3 m ρ c) (((W11_of m ρ c main_v7 (by decide)).trans <| (W10_of m ρ c main_v7 (by decide)).trans <| (W9_of m ρ c main_v7 (by decide)).trans <| (W8_of m ρ c main_v7 (by decide)).trans <| (W7_of m ρ c main_v7 (by decide)).trans <| (W6_of m ρ c main_v7 (by decide)).trans <| (W5_of m ρ c main_v7 (by decide)).trans <| W4_of m ρ c main_v7 (by decide)).trans (at_v7 m ρ c)))
theorem at_v25 (c : Dev nD) : W13 m ρ c (Proc.devRef .tc main_v25) = selBit 0#32 sameGroup (asColumn rowQuery) half256 :=
  by
  refine (after_v25 (W12 m ρ c)).trans ?_
  rw [show W12 m ρ c (Proc.devRef .tc main_v15) = _ from ((W12_of m ρ c main_v15 (by decide)).trans <| (W11_of m ρ c main_v15 (by decide)).trans <| W10_of m ρ c main_v15 (by decide)).trans (at_v15 m ρ c), show W12 m ρ c (Proc.devRef .tc main_v17) = _ from (W12_of m ρ c main_v17 (by decide)).trans (at_v17 m ρ c), at_v18 m ρ c]
theorem at_v26 (c : Dev nD) : W14 m ρ c (Proc.devRef .tc main_v26) = rowQuery :=
  (after_v26 (W13 m ρ c)).trans (congrArg₂ fmod (at_c_5 m ρ c) (((W13_of m ρ c main_v6 (by decide)).trans <| (W12_of m ρ c main_v6 (by decide)).trans <| (W11_of m ρ c main_v6 (by decide)).trans <| (W10_of m ρ c main_v6 (by decide)).trans <| (W9_of m ρ c main_v6 (by decide)).trans <| (W8_of m ρ c main_v6 (by decide)).trans <| (W7_of m ρ c main_v6 (by decide)).trans <| (W6_of m ρ c main_v6 (by decide)).trans <| (W5_of m ρ c main_v6 (by decide)).trans <| W4_of m ρ c main_v6 (by decide)).trans (at_v6 m ρ c)))
theorem at_v27 (c : Dev nD) : W15 m ρ c (Proc.devRef .tc main_v27) = asColumn rowQuery :=
  (after_v27 (W14 m ρ c)).trans (congrArg asColumn (at_v26 m ρ c))
theorem at_v28 (c : Dev nD) : W16 m ρ c (Proc.devRef .tc main_v28) = half256 :=
  (after_v28 (W15 m ρ c)).trans (congrArg₂ fdiv (at_c_6 m ρ c) (((W15_of m ρ c main_v7 (by decide)).trans <| (W14_of m ρ c main_v7 (by decide)).trans <| (W13_of m ρ c main_v7 (by decide)).trans <| (W12_of m ρ c main_v7 (by decide)).trans <| (W11_of m ρ c main_v7 (by decide)).trans <| (W10_of m ρ c main_v7 (by decide)).trans <| (W9_of m ρ c main_v7 (by decide)).trans <| (W8_of m ρ c main_v7 (by decide)).trans <| (W7_of m ρ c main_v7 (by decide)).trans <| (W6_of m ρ c main_v7 (by decide)).trans <| (W5_of m ρ c main_v7 (by decide)).trans <| W4_of m ρ c main_v7 (by decide)).trans (at_v7 m ρ c)))
theorem at_v35 (c : Dev nD) : W17 m ρ c (Proc.devRef .tc main_v35) = selBit 2#32 sameGroup (asColumn rowQuery) half256 :=
  by
  refine (after_v35 (W16 m ρ c)).trans ?_
  rw [show W16 m ρ c (Proc.devRef .tc main_v15) = _ from ((W16_of m ρ c main_v15 (by decide)).trans <| (W15_of m ρ c main_v15 (by decide)).trans <| (W14_of m ρ c main_v15 (by decide)).trans <| (W13_of m ρ c main_v15 (by decide)).trans <| (W12_of m ρ c main_v15 (by decide)).trans <| (W11_of m ρ c main_v15 (by decide)).trans <| W10_of m ρ c main_v15 (by decide)).trans (at_v15 m ρ c), show W16 m ρ c (Proc.devRef .tc main_v27) = _ from (W16_of m ρ c main_v27 (by decide)).trans (at_v27 m ρ c), at_v28 m ρ c]
theorem at_v36 (c : Dev nD) : W18 m ρ c (Proc.devRef .tc main_v36) = rowQuery :=
  (after_v36 (W17 m ρ c)).trans (congrArg₂ fmod (at_c_8 m ρ c) (((W17_of m ρ c main_v6 (by decide)).trans <| (W16_of m ρ c main_v6 (by decide)).trans <| (W15_of m ρ c main_v6 (by decide)).trans <| (W14_of m ρ c main_v6 (by decide)).trans <| (W13_of m ρ c main_v6 (by decide)).trans <| (W12_of m ρ c main_v6 (by decide)).trans <| (W11_of m ρ c main_v6 (by decide)).trans <| (W10_of m ρ c main_v6 (by decide)).trans <| (W9_of m ρ c main_v6 (by decide)).trans <| (W8_of m ρ c main_v6 (by decide)).trans <| (W7_of m ρ c main_v6 (by decide)).trans <| (W6_of m ρ c main_v6 (by decide)).trans <| (W5_of m ρ c main_v6 (by decide)).trans <| W4_of m ρ c main_v6 (by decide)).trans (at_v6 m ρ c)))
theorem at_v37 (c : Dev nD) : W19 m ρ c (Proc.devRef .tc main_v37) = asColumn rowQuery :=
  (after_v37 (W18 m ρ c)).trans (congrArg asColumn (at_v36 m ρ c))
theorem at_v38 (c : Dev nD) : W20 m ρ c (Proc.devRef .tc main_v38) = half256 :=
  (after_v38 (W19 m ρ c)).trans (congrArg₂ fdiv (at_c_9 m ρ c) (((W19_of m ρ c main_v7 (by decide)).trans <| (W18_of m ρ c main_v7 (by decide)).trans <| (W17_of m ρ c main_v7 (by decide)).trans <| (W16_of m ρ c main_v7 (by decide)).trans <| (W15_of m ρ c main_v7 (by decide)).trans <| (W14_of m ρ c main_v7 (by decide)).trans <| (W13_of m ρ c main_v7 (by decide)).trans <| (W12_of m ρ c main_v7 (by decide)).trans <| (W11_of m ρ c main_v7 (by decide)).trans <| (W10_of m ρ c main_v7 (by decide)).trans <| (W9_of m ρ c main_v7 (by decide)).trans <| (W8_of m ρ c main_v7 (by decide)).trans <| (W7_of m ρ c main_v7 (by decide)).trans <| (W6_of m ρ c main_v7 (by decide)).trans <| (W5_of m ρ c main_v7 (by decide)).trans <| W4_of m ρ c main_v7 (by decide)).trans (at_v7 m ρ c)))

/-- The three selectors as bits. -/
def selBits : IVec S3x256x256 1 :=
  concatenate S3x256x256 0
    [⟨S1x256x256, broadcastInDim S1x256x256 ![1, 2] bcast_S256x256_S1x256x256_1_2 (selBit 0#32 sameGroup (asColumn rowQuery) half256)⟩,
     ⟨S1x256x256, broadcastInDim S1x256x256 ![1, 2] bcast_S256x256_S1x256x256_1_2 (selBit 2#32 sameGroup (asColumn rowQuery) half256)⟩,
     ⟨S1x256x256, broadcastInDim S1x256x256 ![1, 2] bcast_S256x256_S1x256x256_1_2 (selBit 4#32 sameGroup (asColumn rowQuery) half256)⟩]
    concatenates_S1x256x256_S1x256x256_S1x256x256_S3x256x256_d0

/-- What the `adc` call finds as its selector matrices. -/
theorem at_v50 (c : Dev nD) : W21 m ρ c (Proc.devRef .tc main_v50) = uitofp .bf16 selBits := by
  refine (after_v50 (W20 m ρ c)).trans ?_
  rw [show W20 m ρ c (Proc.devRef .tc main_v25) = _ from ((W20_of m ρ c main_v25 (by decide)).trans <| (W19_of m ρ c main_v25 (by decide)).trans <| (W18_of m ρ c main_v25 (by decide)).trans <| (W17_of m ρ c main_v25 (by decide)).trans <| (W16_of m ρ c main_v25 (by decide)).trans <| (W15_of m ρ c main_v25 (by decide)).trans <| W14_of m ρ c main_v25 (by decide)).trans (at_v25 m ρ c), show W20 m ρ c (Proc.devRef .tc main_v35) = _ from ((W20_of m ρ c main_v35 (by decide)).trans <| (W19_of m ρ c main_v35 (by decide)).trans <| W18_of m ρ c main_v35 (by decide)).trans (at_v35 m ρ c),
    show W20 m ρ c (Proc.devRef .tc main_v15) = _ from ((W20_of m ρ c main_v15 (by decide)).trans <| (W19_of m ρ c main_v15 (by decide)).trans <| (W18_of m ρ c main_v15 (by decide)).trans <| (W17_of m ρ c main_v15 (by decide)).trans <| (W16_of m ρ c main_v15 (by decide)).trans <| (W15_of m ρ c main_v15 (by decide)).trans <| (W14_of m ρ c main_v15 (by decide)).trans <| (W13_of m ρ c main_v15 (by decide)).trans <| (W12_of m ρ c main_v15 (by decide)).trans <| (W11_of m ρ c main_v15 (by decide)).trans <| W10_of m ρ c main_v15 (by decide)).trans (at_v15 m ρ c), show W20 m ρ c (Proc.devRef .tc main_v37) = _ from (W20_of m ρ c main_v37 (by decide)).trans (at_v37 m ρ c), at_v38 m ρ c]
  rfl

/-- What it finds as its codes: the argument with the entries last. -/
theorem at_v51 (c : Dev nD) : W21 m ρ c (Proc.devRef .tc main_v51)
    = transpose S20x32x131072 [1, 2, 0] (m ((c : Thread nD τ).loc main_arg2)) transposes_S131072x20x32_S20x32x131072_1_2_0 :=
  (after_v51 (W20 m ρ c)).trans (congrArg (fun x : S131072x20x32.Idx → BitVec 8 => transpose S20x32x131072 [1, 2, 0] x transposes_S131072x20x32_S20x32x131072_1_2_0)
    (W20_args m ρ c main_arg2 (by decide)))

/-- What it finds as its table: what the `lut` call left. -/
theorem at_v5 (c : Dev nD) : W21 m ρ c (Proc.devRef .tc main_v5) = W2 m ρ c (Proc.devRef .tc main_v5) :=
  (W21_of m ρ c main_v5 (by decide)).trans <| (W20_of m ρ c main_v5 (by decide)).trans <| (W19_of m ρ c main_v5 (by decide)).trans <| (W18_of m ρ c main_v5 (by decide)).trans <| (W17_of m ρ c main_v5 (by decide)).trans <| (W16_of m ρ c main_v5 (by decide)).trans <| (W15_of m ρ c main_v5 (by decide)).trans <| (W14_of m ρ c main_v5 (by decide)).trans <| (W13_of m ρ c main_v5 (by decide)).trans <| (W12_of m ρ c main_v5 (by decide)).trans <| (W11_of m ρ c main_v5 (by decide)).trans <| (W10_of m ρ c main_v5 (by decide)).trans <| (W9_of m ρ c main_v5 (by decide)).trans <| (W8_of m ρ c main_v5 (by decide)).trans <| (W7_of m ρ c main_v5 (by decide)).trans <| (W6_of m ρ c main_v5 (by decide)).trans <| (W5_of m ρ c main_v5 (by decide)).trans <| (W4_of m ρ c main_v5 (by decide)).trans <| W3_of m ρ c main_v5 (by decide)

end Chain

section Values

/-- Two small numbers compared as words. -/
theorem eqAt_apply (x y : IVec S256 32) (r q : Fin 256) (a b : Nat) (ha : x (ValueIdx.ix1 r) = BitVec.ofNat 32 a) (hb : y (ValueIdx.ix1 q) = BitVec.ofNat 32 b)
    (la : a < 256) (lb : b < 256) : eqAt (asColumn x) y (ValueIdx.ix2 r q) = if a = b then 1#1 else 0#1 := by
  have hx : broadcastInDim S256x256 ![0, 1] bcast_S256x1_S256x256_0_1 (asColumn x) (ValueIdx.ix2 r q) = BitVec.ofNat 32 a := by
    refine (broadcastInDim_apply _ _ _ _ (ValueIdx.ix2 r 0) fun d => by fin_cases d <;> rfl).trans ?_
    refine (broadcastInDim_apply _ _ _ _ (ValueIdx.ix1 r) fun d => by fin_cases d; rfl).trans ha
  have hy : broadcastInDim S256x256 ![0, 1] bcast_S1x256_S256x256_0_1 (broadcastInDim S1x256 ![1] bcast_S256_S1x256_1 y) (ValueIdx.ix2 r q) = BitVec.ofNat 32 b := by
    refine (broadcastInDim_apply _ _ _ _ (ValueIdx.ix2 0 q) fun d => by fin_cases d <;> rfl).trans ?_
    refine (broadcastInDim_apply _ _ _ _ (ValueIdx.ix1 q) fun d => by fin_cases d; rfl).trans hb
  show Scalar.cmpi .eq (broadcastInDim S256x256 ![0, 1] bcast_S256x1_S256x256_0_1 (asColumn x) (ValueIdx.ix2 r q)) (broadcastInDim S256x256 ![0, 1] bcast_S1x256_S256x256_0_1 (broadcastInDim S1x256 ![1] bcast_S256_S1x256_1 y) (ValueIdx.ix2 r q)) = _
  rw [hx, hy]
  have he : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  by_cases h : a = b
  · rw [if_pos h, h]; simp [Scalar.cmpi, IntOp.cmpi]
  · rw [if_neg h]; show BitVec.ofBool (BitVec.ofNat 32 a == BitVec.ofNat 32 b) = 0#1; rw [beq_eq_false_iff_ne.mpr fun e => h (he.mp e)]; rfl

/-- Whether selector matrix `j` has a one at row `r` and column `q`. -/
theorem selBit_apply (j : Fin 3) (r q : Fin 256) :
    selBit (BitVec.ofNat 32 (2 * j.val)) sameGroup (asColumn rowQuery) half256 (ValueIdx.ix2 r q)
      = if q.val % 128 / 4 = r.val / 8 ∧ r.val % 8 = 2 * j.val + q.val / 128 then 1#1 else 0#1 := by
  show eqAt (asColumn rowGroup) laneGroup (ValueIdx.ix2 r q) &&& eqAt (asColumn rowQuery) (addi (broadcastInDim S256 ![] bcast_S_S256 (constantI S_ 32 (BitVec.ofNat 32 (2 * j.val)))) half256) (ValueIdx.ix2 r q) = _
  rw [eqAt_apply rowGroup laneGroup r q _ _ (rowGroup_apply r) (laneGroup_apply q) (by omega) (by omega),
    eqAt_apply rowQuery _ r q (r.val % 8) (2 * j.val + q.val / 128) (rowQuery_apply r) ?_ (by omega) (by omega)]
  · by_cases h1 : r.val / 8 = q.val % 128 / 4 <;> by_cases h2 : r.val % 8 = 2 * j.val + q.val / 128
    · rw [if_pos h1, if_pos h2, if_pos ⟨h1.symm, h2⟩]; rfl
    · rw [if_pos h1, if_neg h2, if_neg fun h => h2 h.2]; rfl
    · rw [if_neg h1, if_pos h2, if_neg fun h => h1 h.1.symm]; rfl
    · rw [if_neg h1, if_neg h2, if_neg fun h => h2 h.2]; rfl
  · show BitVec.ofNat 32 (2 * j.val) + half256 (ValueIdx.ix1 q) = _
    rw [half256_apply, ← BitVec.ofNat_add]

/-- The selector bit of row `r`, column `q` of matrix `j`. -/
theorem selBits_apply (j : Fin 3) (r q : Fin 256) :
    selBits (ValueIdx.ix3 j r q) = if q.val % 128 / 4 = r.val / 8 ∧ r.val % 8 = 2 * j.val + q.val / 128 then 1#1 else 0#1 := by
  rw [← selBit_apply]
  have hp : selBits (ValueIdx.ix3 j r q)
      = broadcastInDim S1x256x256 ![1, 2] bcast_S256x256_S1x256x256_1_2 (selBit (BitVec.ofNat 32 (2 * j.val)) sameGroup (asColumn rowQuery) half256) (ValueIdx.ix3 0 r q) := by
    unfold selBits
    refine concatenate_apply_piece (t := S3x256x256) 0 _ _ _ j.val ?_ S1x256x256 (broadcastInDim S1x256x256 ![1, 2] bcast_S256x256_S1x256x256_1_2 (selBit (BitVec.ofNat 32 (2 * j.val)) sameGroup (asColumn rowQuery) half256)) ?_ rfl j.val ?_ _ ?_ ?_
    · show j.val < 3; omega
    · fin_cases j <;> rfl
    · fin_cases j <;> rfl
    · intro b hb; fin_cases b
      · exact absurd rfl hb
      · rfl
      · rfl
    · show j.val + 0 = j.val; omega
  rw [hp]
  exact broadcastInDim_apply _ _ _ _ (ValueIdx.ix2 r q) fun d => by fin_cases d <;> rfl

/-- The selector entry over the extended reals. -/
theorem sel_apply (j : Fin 3) (r q : Fin 256) :
    (uitofp .bf16 selBits : FVec Ideal S3x256x256 .bf16) (ValueIdx.ix3 j r q)
      = if q.val % 128 / 4 = r.val / 8 ∧ r.val % 8 = 2 * j.val + q.val / 128 then (1 : EReal) else 0 := by
  show (((selBits (ValueIdx.ix3 j r q)).toNat : ℝ) : EReal) = _
  rw [selBits_apply]
  by_cases h : q.val % 128 / 4 = r.val / 8 ∧ r.val % 8 = 2 * j.val + q.val / 128
  · rw [if_pos h, if_pos h]; norm_num
  · rw [if_neg h, if_neg h]; norm_num

end Values

end Cert.KernelIdeal.Gen
end
-- ==== Proof.KernelValI.lean ====
/-
The two results of the whole program in closed form (KernelIdeal): the table of distances, and their sums over the groups
that the codes pick.
-/
module

public import proofs.«01_k».proof.Proof.LutValI
public import proofs.«01_k».proof.Proof.AdcValI
public import proofs.«01_k».proof.Proof.SelI
public import Idealize.ShloMosaic.Lib.Pipeline.ValueKit.Geometry

@[expose] public section

set_option maxRecDepth 8192

noncomputable section

namespace Cert.KernelIdeal.Gen

open Idealize.ShloMosaic Idealize.ShloMosaic.TcCoe Idealize.ShloMosaic.Tactic

section Blocks

variable (V : (c : Dev nD) → (b : Ref sig .tc) → Buf (Elt Ideal) ((c : Thread nD τ).loc b)) (c : Dev nD)

/-- Where each window stands at each point: only the codes and the distances of the second call move with the point. -/
theorem index0_0 : ∀ t : Fin cfg0.N, win0_0.index t = ![0, 0, 0, 0] := (by decide +kernel : ∀ t : Fin grid0.N, _)
theorem index0_1 : ∀ t : Fin cfg0.N, win0_1.index t = ![0, 0, 0] := (by decide +kernel : ∀ t : Fin grid0.N, _)
theorem index0_2 : ∀ t : Fin cfg0.N, win0_2.index t = ![0, 0, 0] := (by decide +kernel : ∀ t : Fin grid0.N, _)
theorem index1_0 : ∀ t : Fin cfg1.N, win1_0.index t = ![0, 0, 0] := (by decide +kernel : ∀ t : Fin grid1.N, _)
theorem index1_1 : ∀ t : Fin cfg1.N, win1_1.index t = ![0, 0, 0] := (by decide +kernel : ∀ t : Fin grid1.N, _)
theorem index1_2 : ∀ t : Fin cfg1.N, win1_2.index t = ![0, 0, t.val] := (by decide +kernel : ∀ t : Fin grid1.N, _)
theorem index1_3 : ∀ t : Fin cfg1.N, win1_3.index t = ![0, t.val] := (by decide +kernel : ∀ t : Fin grid1.N, _)

/-- The `lut` call's only block of each operand is the operand. -/
theorem iblk0_0 (t : Fin cfg0.N) : iblk0 V c 0 t = V c main_v3 := by
  funext y
  blk_simp [iblk0]
  congr 1
  blk_ext [index0_0]

/-- The first call's second operand is read whole. -/
theorem iblk0_1 (t : Fin cfg0.N) : iblk0 V c 1 t = V c main_v4 := by
  funext y
  blk_simp [iblk0]
  congr 1
  blk_ext [index0_1]

/-- Every point of the `adc` call sees the whole table and the whole selectors. -/
theorem iblk1_0 (t : Fin cfg1.N) : iblk1 V c 0 t = V c main_v5 := by
  funext y
  blk_simp [iblk1]
  congr 1
  blk_ext [index1_0]

/-- The second call's selector matrices are read whole. -/
theorem iblk1_1 (t : Fin cfg1.N) : iblk1 V c 1 t = V c main_v50 := by
  funext y
  blk_simp [iblk1]
  congr 1
  blk_ext [index1_1]

/-- Point `t` sees entries `1024 t` and on of the codes. -/
theorem iblk1_2 (t : Fin cfg1.N) (m : Fin 20) (s : Fin 32) (e : Fin 1024) :
    iblk1 V c 2 t (ValueIdx.ix3 m s e) = V c main_v51 (ValueIdx.ix3 m s ⟨1024 * t.val + e.val, by have : t.val < 128 := t.isLt; omega⟩) := by
  blk_simp [iblk1]
  congr 1
  blk_ext [index1_2]
  show t.val * 1024 + e.val = 1024 * t.val + e.val; omega

/-- The table the `lut` call leaves. -/
theorem arr_lut : (dat0 V c).arrAt 2 cfg0.N = lutG (V c main_v3) (V c main_v4) := by
  refine (dat0 V c).arrAt_eq_of_covers 2 _ (by decide +kernel) fun t hf y => ?_
  blk_simp
  rw [after0_2, out0_2_val, iblk0_0, iblk0_1]
  congr 1
  blk_ext [index0_2]

/-- The sums over the groups of the table's entries that the codes pick, from the table and the codes with the entries last. -/
def distG (T : S6x20x256.Idx → EReal) (C : S20x32x131072.Idx → BitVec 8) : S6x4194304.Idx → EReal := fun i =>
  ∑ m : Fin 20, T (ValueIdx.ix3 (i 0) m (C (ValueIdx.ix3 m ⟨(i 1).val % 32, by omega⟩ ⟨(i 1).val / 32, by have : (i 1).val < 4194304 := (i 1).isLt; omega⟩)).toFin)

/-- Point `t`'s share of the sums, from its own block of the codes. -/
theorem adcG_block (T : S6x20x256.Idx → EReal) (B : S20x32x1024.Idx → BitVec 8) (C : S20x32x131072.Idx → BitVec 8) (t : ℕ) (ht : t < 128)
    (hB : ∀ (m : Fin 20) (s : Fin 32) (e : Fin 1024), B (ValueIdx.ix3 m s e) = C (ValueIdx.ix3 m s ⟨1024 * t + e.val, by omega⟩))
    (b : Fin 6) (n : Fin 32768) : adcG T B (ValueIdx.ix2 b n) = distG T C (ValueIdx.ix2 b ⟨32768 * t + n.val, by omega⟩) := by
  show (∑ m : Fin 20, T (ValueIdx.ix3 b m (B (ValueIdx.ix3 m ⟨n.val % 32, _⟩ ⟨n.val / 32, _⟩)).toFin)) = ∑ m : Fin 20, T (ValueIdx.ix3 b m (C (ValueIdx.ix3 m ⟨(32768 * t + n.val) % 32, _⟩ ⟨(32768 * t + n.val) / 32, _⟩)).toFin)
  refine Finset.sum_congr rfl fun m _ => ?_
  rw [hB]
  have h1 : (⟨n.val % 32, by omega⟩ : Fin 32) = ⟨(32768 * t + n.val) % 32, by omega⟩ := Fin.ext (by show n.val % 32 = (32768 * t + n.val) % 32; omega)
  have h2 : (⟨1024 * t + n.val / 32, by omega⟩ : Fin 131072) = ⟨(32768 * t + n.val) / 32, by omega⟩ := Fin.ext (by show 1024 * t + n.val / 32 = (32768 * t + n.val) / 32; omega)
  rw [h1, h2]

/-- The distances the `adc` call leaves, given that it finds the selectors. -/
theorem arr_adc (hs : ∀ (j : Fin 3) (r q : Fin 256), V c main_v50 (ValueIdx.ix3 j r q) = if (laneOf q).val / 4 = r.val / 8 ∧ r.val % 8 = 2 * j.val + q.val / 128 then (1 : EReal) else 0) :
    (dat1 V c).arrAt 3 cfg1.N = distG (V c main_v5) (V c main_v51) := by
  refine (dat1 V c).arrAt_eq_of_covers 3 _ (by decide +kernel) fun t hf y => ?_
  blk_simp
  rw [after1_3]
  unfold outsAt1
  rw [out1_eq _ _ _ _ _ _ _ _ _ _ _ _ _ _ _ (by rw [iblk1_1]; exact hs), iblk1_0]
  obtain ⟨b, n, rfl⟩ : ∃ (b : Fin 6) (n : Fin 32768), y = ValueIdx.ix2 b n := ⟨y 0, y 1, ValueIdx.eq_ix2 y⟩
  have ht : t.val < 128 := t.isLt
  have he : (win1_3.blk t).view.emb (ValueIdx.ix2 b n) = (ValueIdx.ix2 b (⟨32768 * t.val + n.val, by omega⟩ : Fin 4194304) : S6x4194304.Idx) := by
    blk_ext [index1_3]
    show t.val * 32768 + n.val = 32768 * t.val + n.val; omega
  refine Eq.trans ?_ (congrArg (distG (V c main_v5) (V c main_v51)) he).symm
  exact adcG_block _ _ _ t.val ht (fun m s e => iblk1_2 V c t m s e) b n

end Blocks

end Cert.KernelIdeal.Gen

end
-- ==== Proof.Spec.lean ====
/-
The two results as functions of the arguments, over the extended reals: the squared distances of each query's pieces from
every code of every group, and their sums over the groups along the codes of each entry.
-/
module

public import Idealize.ShloMosaic.Lib.ValueIdx

@[expose] public section

noncomputable section

namespace Adc

open Idealize.ShloMosaic

/-- The squared distance of query `b`'s piece `m` from code `k` of group `m`. -/
def table (X : (⟨2, ![6, 200]⟩ : Shape).Idx → EReal) (B : (⟨3, ![20, 256, 10]⟩ : Shape).Idx → EReal) : (⟨3, ![6, 20, 256]⟩ : Shape).Idx → EReal := fun i =>
  ∑ d : Fin 10, (X (ValueIdx.ix2 (i 0) (⟨10 * (i 1).val + d.val, by have : (i 1).val < 20 := (i 1).isLt; omega⟩ : Fin 200)) - B (ValueIdx.ix3 (i 1) (i 2) d))
    * (X (ValueIdx.ix2 (i 0) (⟨10 * (i 1).val + d.val, by have : (i 1).val < 20 := (i 1).isLt; omega⟩ : Fin 200)) - B (ValueIdx.ix3 (i 1) (i 2) d))

/-- The sum over the groups of the table's entries that entry `n`'s codes pick; entry `n` is place `n % 32` of block `n / 32`. -/
def dist (T : (⟨3, ![6, 20, 256]⟩ : Shape).Idx → EReal) (C : (⟨3, ![131072, 20, 32]⟩ : Shape).Idx → BitVec 8) : (⟨2, ![6, 4194304]⟩ : Shape).Idx → EReal := fun i =>
  ∑ m : Fin 20, T (ValueIdx.ix3 (i 0) m
    (C (ValueIdx.ix3 (⟨(i 1).val / 32, by have : (i 1).val < 4194304 := (i 1).isLt; omega⟩ : Fin 131072) m (⟨(i 1).val % 32, by omega⟩ : Fin 32))).toFin)

end Adc

end
-- ==== Proof.OutI.lean ====
/-
The program's results as functions of its arguments (KernelIdeal).
-/
module

public import proofs.«01_k».proof.Proof.KernelValI
public import proofs.«01_k».proof.Proof.Spec

@[expose] public section

set_option maxRecDepth 8192

noncomputable section

namespace Cert.KernelIdeal.Gen

open Idealize.ShloMosaic Idealize.ShloMosaic.TcCoe Idealize.SL.Sem

section Stretch

variable {F : FTy → Type} [FloatOps F] (V : Valuation τ sig (Elt F))

/-- The queries as the `lut` call takes them. -/
def queriesOf (x : FVec F S6x200 .bf16) : FVec F S10x6x20x1 .f32 :=
  broadcastInDim S10x6x20x1 ![0, 1, 2] bcast_S10x6x20_S10x6x20x1_0_1_2
    (transpose S10x6x20 [2, 0, 1] (shapeCast S6x20x10 (extf .f32 x bitsLt_bf16_f32) shapeCasts_S6x200_S6x20x10) transposes_S6x20x10_S10x6x20_2_0_1)

/-- What the host passes the `lut` call as queries. -/
theorem after_v3 : StableHlo.after hostOps0 V (Proc.devRef .tc main_v3) = queriesOf (V (Proc.devRef .tc main_arg0)) := by
  after_reads_simp
  rfl
/-- What the host passes it as codebooks. -/
theorem after_v4 : StableHlo.after hostOps0 V (Proc.devRef .tc main_v4) = transpose S10x20x256 [2, 0, 1] (V (Proc.devRef .tc main_arg1)) transposes_S20x256x10_S10x20x256_2_0_1 := by
  after_reads_simp

end Stretch

/-- The queries as passed, at an index. -/
theorem queriesOf_apply (x : FVec Ideal S6x200 .bf16) (d : Fin 10) (b : Fin 6) (m : Fin 20) :
    queriesOf (F := Ideal) x (ValueIdx.ix4 d b m 0) = x (ValueIdx.ix2 b ⟨10 * m.val + d.val, by omega⟩) := by
  unfold queriesOf
  refine (broadcastInDim_apply _ _ _ _ (ValueIdx.ix3 d b m) fun a => by fin_cases a <;> rfl).trans ?_
  refine (transpose_apply _ _ _ _ (ValueIdx.ix3 b m d) fun a => by fin_cases a <;> rfl).trans ?_
  refine shapeCast_apply _ _ _ (ValueIdx.ix2 b (⟨10 * m.val + d.val, by omega⟩ : Fin 200)) ?_
  rw [Shape.rowMajor_val_two, Shape.rowMajor_val_three]
  show b.val * 200 + (10 * m.val + d.val) = (b.val * 20 + m.val) * 10 + d.val; omega

/-- The `lut` call's block is the table of the arguments. -/
theorem lutG_args (x : FVec Ideal S6x200 .bf16) (B : FVec Ideal S20x256x10 .f32) :
    lutG (queriesOf (F := Ideal) x) (transpose S10x20x256 [2, 0, 1] B transposes_S20x256x10_S10x20x256_2_0_1) = Adc.table x B := by
  funext i
  unfold lutG Adc.table
  refine Finset.sum_congr rfl fun d _ => ?_
  rw [show queriesOf (F := Ideal) x (ValueIdx.ix4 d (i 0) (i 1) 0) = _ from queriesOf_apply x d (i 0) (i 1),
    show transpose S10x20x256 [2, 0, 1] B transposes_S20x256x10_S10x20x256_2_0_1 (ValueIdx.ix3 d (i 1) (i 2)) = B (ValueIdx.ix3 (i 1) (i 2) d) from
      transpose_apply _ _ _ _ _ fun a => by fin_cases a <;> rfl]

/-- The distances in terms of the codes as they are given. -/
theorem distG_args (T : S6x20x256.Idx → EReal) (C : S131072x20x32.Idx → BitVec 8) :
    distG T (transpose S20x32x131072 [1, 2, 0] C transposes_S131072x20x32_S20x32x131072_1_2_0) = Adc.dist T C := by
  funext i
  unfold distG Adc.dist
  refine Finset.sum_congr rfl fun m _ => ?_
  rw [show transpose S20x32x131072 [1, 2, 0] C transposes_S131072x20x32_S20x32x131072_1_2_0 (ValueIdx.ix3 m ⟨(i 1).val % 32, by omega⟩ ⟨(i 1).val / 32, by have : (i 1).val < 4194304 := (i 1).isLt; omega⟩)
      = C (ValueIdx.ix3 ⟨(i 1).val / 32, by have : (i 1).val < 4194304 := (i 1).isLt; omega⟩ m ⟨(i 1).val % 32, by omega⟩) from
      transpose_apply _ _ _ _ _ fun a => by fin_cases a <;> rfl]

variable (m : (ℓ : Loc nD τ sig) → Buf (Elt Ideal) ℓ) (ρ : Dev nD → PrngReg)

/-- The table the program ends with. -/
theorem W2_main_v5 (c : Dev nD) : W2 m ρ c (Proc.devRef .tc main_v5) = Adc.table (m ((c : Thread nD τ).loc main_arg0)) (m ((c : Thread nD τ).loc main_arg1)) := by
  refine (W2_arr m ρ c 2).trans ((arr_lut (V1 m ρ) c).trans ?_)
  rw [show V1 m ρ c main_v3 = _ from after_v3 (W0 m ρ c), show V1 m ρ c main_v4 = _ from after_v4 (W0 m ρ c)]
  exact lutG_args _ _

/-- The table at the end is the one the first call left. -/
theorem W22_main_v5 (c : Dev nD) : W22 m ρ c (Proc.devRef .tc main_v5) = Adc.table (m ((c : Thread nD τ).loc main_arg0)) (m ((c : Thread nD τ).loc main_arg1)) :=
  (W22_of m ρ c main_v5 (by decide +kernel)).trans ((at_v5 m ρ c).trans (W2_main_v5 m ρ c))

/-- The distances it ends with. -/
theorem W22_main_v52 (c : Dev nD) : W22 m ρ c (Proc.devRef .tc main_v52)
    = Adc.dist (Adc.table (m ((c : Thread nD τ).loc main_arg0)) (m ((c : Thread nD τ).loc main_arg1))) (m ((c : Thread nD τ).loc main_arg2)) := by
  refine (W22_arr m ρ c 3).trans ((arr_adc (V21 m ρ) c ?_).trans ?_)
  · intro j r q
    rw [show V21 m ρ c main_v50 = _ from at_v50 m ρ c]
    exact sel_apply j r q
  · rw [show V21 m ρ c main_v5 = _ from (at_v5 m ρ c).trans (W2_main_v5 m ρ c), show V21 m ρ c main_v51 = _ from at_v51 m ρ c]
    exact distG_args _ _

/-- Every run of the program ends with these results and its arguments as they were. -/
theorem run_vals : θ_run defs (onTc (τ := τ) (main (F := Ideal))) ⟨m, fun _ => 0, ρ⟩ fun r => ∀ c : Dev nD,
      r.2.mem ((c : Thread nD τ).loc main_v52) = Adc.dist (Adc.table (m ((c : Thread nD τ).loc main_arg0)) (m ((c : Thread nD τ).loc main_arg1))) (m ((c : Thread nD τ).loc main_arg2))
      ∧ r.2.mem ((c : Thread nD τ).loc main_v5) = Adc.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      ⟨(h.1 c main_v52 (by decide)).trans (W22_main_v52 m ρ c),
       (h.1 c main_v5 (by decide)).trans (W22_main_v5 m ρ c),
       (h.1 c main_arg0 (by decide)).trans (W22_main_arg0 m ρ c),
       (h.1 c main_arg1 (by decide)).trans (W22_main_arg1 m ρ c),
       (h.1 c main_arg2 (by decide)).trans (W22_main_arg2 m ρ c)⟩) (run_all m ρ)

end Cert.KernelIdeal.Gen

end
-- ==== Proof.RefValI.lean ====
/-
The reference's results as functions of its arguments: its table is the squared distances, and its gathered sums are the
sums of the table's entries that the codes pick.
-/
module

public import proofs.«01_k».proof.Proof.Gen.ReferenceIdeal.Run
public import proofs.«01_k».proof.Proof.Spec
public import Idealize.ShloMosaic.Lib.ValueIdx
public import Idealize.ShloMosaic.Lib.IdealHost
public import Idealize.ShloMosaic.Lib.Pipeline.Value
public import Idealize.ShloMosaic.Lib.Pointwise.Reduce

@[expose] public section

set_option maxRecDepth 8192

noncomputable section

namespace Cert.ReferenceIdeal.Value

open Cert.ReferenceIdeal.Facts₀ Cert.ReferenceIdeal.Facts Idealize.ShloMosaic Idealize.ShloMosaic.TcCoe Idealize.SL.Sem

/-- The differences the reference squares. -/
def diff (x : FVec Ideal S6x200 .bf16) (cb : FVec Ideal S20x256x10 .f32) : FVec Ideal S6x20x256x10 .f32 :=
  subf (broadcastInDim S6x20x256x10 ![0, 1, 2, 3] bcast_S6x20x1x10_S6x20x256x10_0_1_2_3 (broadcastInDim S6x20x1x10 ![0, 1, 3] bcast_S6x20x10_S6x20x1x10_0_1_3 (shapeCast _ (extf .f32 x bitsLt_bf16_f32) shapeCasts_S6x200_S6x20x10)))
    (broadcastInDim S6x20x256x10 ![0, 1, 2, 3] bcast_S1x20x256x10_S6x20x256x10_0_1_2_3 (broadcastInDim S1x20x256x10 ![1, 2, 3] bcast_S20x256x10_S1x20x256x10_1_2_3 cb))

/-- The difference at an index. -/
theorem diff_apply (x : FVec Ideal S6x200 .bf16) (cb : FVec Ideal S20x256x10 .f32) (b : Fin 6) (m : Fin 20) (k : Fin 256) (d : Fin 10) :
    diff x cb (ValueIdx.ix4 b m k d) = (x (ValueIdx.ix2 b (⟨10 * m.val + d.val, by omega⟩ : Fin 200)) : EReal) - (cb (ValueIdx.ix3 m k d) : EReal) := by
  refine congrArg₂ (fun u v : EReal => u - v) ?_ ?_
  · refine (broadcastInDim_apply _ _ _ _ (ValueIdx.ix4 b m (0 : Fin 1) d) fun a => by fin_cases a <;> rfl).trans ?_
    refine (broadcastInDim_apply _ _ _ _ (ValueIdx.ix3 b m d) fun a => by fin_cases a <;> rfl).trans ?_
    refine shapeCast_apply _ _ _ (ValueIdx.ix2 b (⟨10 * m.val + d.val, by omega⟩ : Fin 200)) ?_
    rw [Shape.rowMajor_val_two, Shape.rowMajor_val_three]
    show b.val * 200 + (10 * m.val + d.val) = (b.val * 20 + m.val) * 10 + d.val
    omega
  · refine (broadcastInDim_apply _ _ _ _ (ValueIdx.ix4 (0 : Fin 1) m k d) fun a => by fin_cases a <;> rfl).trans ?_
    exact broadcastInDim_apply _ _ _ _ (ValueIdx.ix3 m k d) fun a => by fin_cases a <;> rfl

/-- The reference's table. -/
def tableR (x : FVec Ideal S6x200 .bf16) (cb : FVec Ideal S20x256x10 .f32) : FVec Ideal S6x20x256 .f32 :=
  Host.reduceAdd (mulf (diff x cb) (diff x cb)) (constant S_ .f32 0x00000000#32) reducesTo_S6x20x256x10_S6x20x256_d3 h_S_

/-- It is the table of squared distances. -/
theorem tableR_eq (x : FVec Ideal S6x200 .bf16) (cb : FVec Ideal S20x256x10 .f32) : tableR x cb = Adc.table x cb := by
  funext i
  refine (Ideal.hostReduceAdd_r4_a3 reducesTo_S6x20x256x10_S6x20x256_d3 _ _ i).trans ?_
  refine (congrArg₂ (fun u v : EReal => u + v) Ideal.ofBits_zero_f32 (Finset.sum_congr rfl fun d _ => ?_)).trans (zero_add _)
  exact congrArg₂ (fun u v : EReal => u * v) (diff_apply x cb (i 0) (i 1) (i 2) d) (diff_apply x cb (i 0) (i 1) (i 2) d)

/-- The group numbers. -/
def groups : IVec S1x20x1 32 := broadcastInDim S1x20x1 ![1] bcast_S20_S1x20x1_1 (iotaInDim S20 32 0)

/-- A negative index, counted from the end, made nonnegative. -/
def wrap {s : Shape} (h : S_.BroadcastsInDim s ![]) (n : BitVec 32) (v : IVec s 32) : IVec s 32 :=
  select (cmpi .slt v (broadcastInDim s ![] h (constantI S_ 32 0#32))) (addi v (broadcastInDim s ![] h (constantI S_ 32 n))) v

/-- An index that is not negative is kept. -/
theorem wrap_apply {s : Shape} (h : S_.BroadcastsInDim s ![]) (n : BitVec 32) (v : IVec s 32) (i : s.Idx) (hv : (v i).slt 0#32 = false) : wrap h n v i = v i := by
  show (if (BitVec.ofBool ((v i).slt 0#32)) = 1#1 then _ else v i) = v i
  rw [hv]
  rfl

/-- A byte read as a number is not negative. -/
theorem byte_not_neg (b : BitVec 8) : (b.setWidth 32).slt 0#32 = false := by
  revert b
  decide +kernel

/-- As a table index a byte is its own number. -/
theorem byte_toFin (b : BitVec 8) : min (b.setWidth 32).toInt.toNat 255 = b.toNat := by
  revert b
  decide +kernel

/-- As a table index a group's number is the group. -/
theorem group_toFin (m : Fin 20) : min (BitVec.ofNat 32 m.val).toInt.toNat 19 = m.val := by
  revert m
  decide

/-- The pairs of group and code the reference gathers at. -/
def pairs (C : IVec S131072x20x32 8) : IVec S131072x20x32x2 32 :=
  concatenate S131072x20x32x2 3
    [⟨S131072x20x32x1, broadcastInDim S131072x20x32x1 ![0, 1, 2] bcast_S131072x20x32_S131072x20x32x1_0_1_2
        (broadcastInDim S131072x20x32 ![0, 1, 2] bcast_S1x20x1_S131072x20x32_0_1_2 (wrap bcast_S_S1x20x1 20#32 groups))⟩,
     ⟨S131072x20x32x1, broadcastInDim S131072x20x32x1 ![0, 1, 2] bcast_S131072x20x32_S131072x20x32x1_0_1_2
        (wrap bcast_S_S131072x20x32 256#32 (extui 32 C natLt_8_32))⟩]
    concatenates_S131072x20x32x1_S131072x20x32x1_S131072x20x32x2_d3

/-- Its first component is the group. -/
theorem pairs_zero (C : IVec S131072x20x32 8) (e : Fin 131072) (m : Fin 20) (t : Fin 32) : pairs C (ValueIdx.ix4 e m t (0 : Fin 2)) = BitVec.ofNat 32 m.val := by
  refine (concatenate_pair_apply_left (t := S131072x20x32x2) (s₁ := S131072x20x32x1) (s₂ := S131072x20x32x1) 3 _ _ concatenates_S131072x20x32x1_S131072x20x32x1_S131072x20x32x2_d3 _ rfl (ValueIdx.ix4 e m t (0 : Fin 1)) fun a => by fin_cases a <;> rfl).trans ?_
  refine (broadcastInDim_apply _ _ _ _ (ValueIdx.ix3 e m t) fun a => by fin_cases a <;> rfl).trans ?_
  refine (broadcastInDim_apply _ _ _ _ (ValueIdx.ix3 (0 : Fin 1) m (0 : Fin 1)) fun a => by fin_cases a <;> rfl).trans ?_
  have hg : groups (ValueIdx.ix3 (0 : Fin 1) m (0 : Fin 1)) = BitVec.ofNat 32 m.val :=
    (broadcastInDim_apply _ _ _ _ (ValueIdx.ix1 m) fun a => by fin_cases a; rfl).trans rfl
  rw [wrap_apply _ _ _ _ (by rw [hg]; revert m; decide), hg]

/-- Its second component is the code. -/
theorem pairs_one (C : IVec S131072x20x32 8) (e : Fin 131072) (m : Fin 20) (t : Fin 32) :
    pairs C (ValueIdx.ix4 e m t (1 : Fin 2)) = (C (ValueIdx.ix3 e m t)).setWidth 32 := by
  refine (concatenate_pair_apply_right (t := S131072x20x32x2) (s₁ := S131072x20x32x1) (s₂ := S131072x20x32x1) 3 _ _ concatenates_S131072x20x32x1_S131072x20x32x1_S131072x20x32x2_d3 _ rfl rfl (ValueIdx.ix4 e m t (0 : Fin 1)) (fun a ha => ?_) rfl).trans ?_
  · fin_cases a
    · rfl
    · rfl
    · rfl
    · exact absurd rfl ha
  refine (broadcastInDim_apply _ _ _ _ (ValueIdx.ix3 e m t) fun a => by fin_cases a <;> rfl).trans ?_
  exact wrap_apply _ _ _ _ (byte_not_neg _)

/-- The gather at an index: the operand at the pair of group and code there. -/
theorem gather_apply (T : FVec Ideal S6x20x256 .f32) (I : IVec S131072x20x32x2 32) (b : Fin 6) (e : Fin 131072) (m : Fin 20) (t : Fin 32) :
    Host.gather gather_S6x20x256_S131072x20x32x2_S6x131072x20x32_0_12_n_n_12_3_611 T I (ValueIdx.ix4 b e m t)
      = T (ValueIdx.ix3 b (⟨min (I (ValueIdx.ix4 e m t (0 : Fin 2))).toInt.toNat 19, by omega⟩ : Fin 20) (⟨min (I (ValueIdx.ix4 e m t (1 : Fin 2))).toInt.toNat 255, by omega⟩ : Fin 256)) := by
  unfold Host.gather
  congr 1
  funext a
  refine Fin.ext ?_
  show GatherDims.start _ _ _ a + GatherDims.batchCoord _ _ a + GatherDims.offCoord _ _ a = _
  rw [GatherDims.batchCoord_eq_zero _ _ _ List.not_mem_nil]
  fin_cases a
  · rw [GatherDims.start, dif_neg (by decide)]
    show 0 + 0 + GatherDims.offCoord _ _ _ = b.val
    rw [GatherDims.offCoord, dif_pos (by decide)]
    exact (Nat.zero_add _).trans rfl
  · rw [GatherDims.offCoord_eq_zero _ _ _ (by decide), GatherDims.start, dif_pos (by decide)]
    show min (I _).toInt.toNat 19 = min (I _).toInt.toNat 19
    congr 4
    funext b
    refine Fin.ext ?_
    fin_cases b <;> rfl
  · rw [GatherDims.offCoord_eq_zero _ _ _ (by decide), GatherDims.start, dif_pos (by decide)]
    show min (I _).toInt.toNat 255 = min (I _).toInt.toNat 255
    congr 4
    funext b
    refine Fin.ext ?_
    fin_cases b <;> rfl

/-- The reference's distances, of any table. -/
def distR (T : FVec Ideal S6x20x256 .f32) (C : IVec S131072x20x32 8) : FVec Ideal S6x4194304 .bf16 :=
  truncf .bf16 (shapeCast _ (Host.reduceAdd (Host.gather gather_S6x20x256_S131072x20x32x2_S6x131072x20x32_0_12_n_n_12_3_611 T (pairs C))
    (constant S_ .f32 0x00000000#32) reducesTo_S6x131072x20x32_S6x131072x32_d2 h_S_) shapeCasts_S6x131072x32_S6x4194304) bitsLt_bf16_f32

/-- They are the sums of the entries the codes pick. -/
theorem distR_eq (T : FVec Ideal S6x20x256 .f32) (C : IVec S131072x20x32 8) : distR T C = Adc.dist T C := by
  funext i
  have h1 : (i 1).val < 4194304 := (i 1).isLt
  refine (shapeCast_apply (Host.reduceAdd (Host.gather gather_S6x20x256_S131072x20x32x2_S6x131072x20x32_0_12_n_n_12_3_611 T (pairs C))
    (constant S_ .f32 0x00000000#32) reducesTo_S6x131072x20x32_S6x131072x32_d2 h_S_) shapeCasts_S6x131072x32_S6x4194304 i (ValueIdx.ix3 (i 0) (⟨(i 1).val / 32, by omega⟩ : Fin 131072) (⟨(i 1).val % 32, by omega⟩ : Fin 32)) ?_).trans ?_
  · rw [Shape.rowMajor_val_two, Shape.rowMajor_val_three]
    show ((i 0).val * 131072 + (i 1).val / 32) * 32 + (i 1).val % 32 = (i 0).val * 4194304 + (i 1).val
    omega
  refine (Ideal.hostReduceAdd_r4_a2 reducesTo_S6x131072x20x32_S6x131072x32_d2 _ _ _).trans ?_
  refine (congrArg₂ (fun u v : EReal => u + v) Ideal.ofBits_zero_f32 (Finset.sum_congr rfl fun m _ => ?_)).trans (zero_add _)
  refine (gather_apply T (pairs C) (i 0) (⟨(i 1).val / 32, by omega⟩ : Fin 131072) m (⟨(i 1).val % 32, by omega⟩ : Fin 32)).trans ?_
  refine congrArg T (congrArg₂ (ValueIdx.ix3 (i 0)) (Fin.ext ?_) (Fin.ext ?_))
  · show min (pairs C _).toInt.toNat 19 = m.val
    rw [pairs_zero]
    exact group_toFin m
  · show min (pairs C _).toInt.toNat 255 = _
    rw [pairs_one]
    exact byte_toFin _

/-- Every run of the reference ends with these results and its arguments as they were. -/
theorem run_vals (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v29) = Adc.dist (Adc.table (m ((c : Thread nD τ).loc main_arg0)) (m ((c : Thread nD τ).loc main_arg1))) (m ((c : Thread nD τ).loc main_arg2))
      ∧ r.2.mem ((c : Thread nD τ).loc main_v8) = Adc.table (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
      have hT := tableR_eq (m ((c : Thread nD τ).loc main_arg0)) (m ((c : Thread nD τ).loc main_arg1))
      ⟨(h c).1.trans ((congrArg (distR · (m ((c : Thread nD τ).loc main_arg2))) hT).trans (distR_eq _ _)),
       (h c).2.1.trans hT, (h c).2.2⟩) (run m ρ)

end Cert.ReferenceIdeal.Value

end
-- ==== Proof.lean ====
/- The certificate: the three runs (termination, arguments unchanged, counters at zero), the step from the machine's
   words to exact numbers, and the equality over the extended reals of the kernel's two results and the reference's. The two
   kernels' runs are `Proof/RunK.lean` and `Proof/RunI.lean`; the reference's is the generated list of its host operations.
   What the results are is `Proof/Spec.lean`; that the kernel computes it is `Proof/OutI.lean`, and that the reference does is
   `Proof/RefValI.lean`. -/
module

public import proofs.«01_k».proof.Defs
public import proofs.«01_k».proof.Proof.RunK
public import proofs.«01_k».proof.Proof.RunI
public import proofs.«01_k».proof.Proof.OutI
public import proofs.«01_k».proof.Proof.RefValI
public import Idealize.ShloMosaic.Lib.Bf16Pair
public import Idealize.ShloMosaic.Lib.Bf16PairInverse
public import Idealize.ShloMosaic.Lib.Quiescent

@[expose] public section

noncomputable section

namespace Cert.Proof

open Idealize.ShloMosaic Idealize.ShloMosaic.TcCoe Idealize.ShloMosaic.IdealRules Idealize.SL.Sem

/-- The kernel over machine words runs to its end with its arguments unchanged and all counters at zero. -/
theorem frameK : Cert.quiescent_Kernel := fun m ρ _ => Cert.Kernel.Gen.frame (F := Bits) m ρ

/-- The kernel over exact numbers runs to its end with its arguments unchanged and all counters at zero. -/
theorem frameI : Cert.quiescent_KernelIdeal := fun m ρ _ => Cert.KernelIdeal.Gen.frame (F := Ideal) m ρ

/-- The reference runs to its end with its arguments unchanged; it declares no counter. -/
theorem frameR : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- Each rewrite that takes the kernel to exact numbers keeps what the words compute. -/
theorem preserves : Cert.preserves_Kernel_KernelIdeal :=
  ⟨bf16_pair.bufferStatement _ _, bf16_pair.halfStatement _, bf16_pair.statement _ _, bf16_pair.statement _ _,
    bf16_pair.selectZeroStatement _, bf16_pair.statement _ _⟩

/-- From the same arguments the kernel and the reference end, over the extended reals, with the same distances and the same
    table: both are `Adc.dist` and `Adc.table` of the arguments. -/
theorem algebraic : Cert.algebraic_KernelIdeal_ReferenceIdeal := fun m g m' g' _ hargs => by
  refine ⟨fun c => Adc.dist (Adc.table (m ((c : Thread Cert.KernelIdeal.nD Cert.KernelIdeal.τ).loc Cert.KernelIdeal.main_arg0))
      (m ((c : Thread Cert.KernelIdeal.nD Cert.KernelIdeal.τ).loc Cert.KernelIdeal.main_arg1))) (m ((c : Thread Cert.KernelIdeal.nD Cert.KernelIdeal.τ).loc Cert.KernelIdeal.main_arg2)),
    fun c => Adc.table (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Gen.run_vals m g, ?_⟩
  refine (θ_run Cert.ReferenceIdeal.defs _ _).mono (fun r h c => ?_) (Cert.ReferenceIdeal.Value.run_vals m' g')
  obtain ⟨hd, ht, hrest⟩ := h c
  obtain ⟨h0, h1, h2⟩ := hargs c
  rw [h0, h1] at ht
  rw [h0, h1, h2] at hd
  exact ⟨hd, ht, hrest⟩

/-- The claim. -/
theorem claim : Cert.Claim := ⟨Cert.Kernel.Gen.facts, Cert.KernelIdeal.Gen.facts, Cert.ReferenceIdeal.Gen.facts,
  frameK, frameI, frameR, preserves, algebraic⟩

end Cert.Proof

end
